-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S1 : Shape := ⟨1, ![1]⟩
abbrev S4096x256 : Shape := ⟨2, ![4096, 256]⟩
abbrev S2x4096x256 : Shape := ⟨3, ![2, 4096, 256]⟩
abbrev S32x128x256 : Shape := ⟨3, ![32, 128, 256]⟩
abbrev S2 : Shape := ⟨1, ![2]⟩
abbrev S32 : Shape := ⟨1, ![32]⟩
abbrev S_ : Shape := ⟨0, ![]⟩
abbrev S1x4096x256 : Shape := ⟨3, ![1, 4096, 256]⟩
abbrev S128x256 : Shape := ⟨2, ![128, 256]⟩
abbrev S1x128x256 : Shape := ⟨3, ![1, 128, 256]⟩

abbrev nBuf : Space → Nat
  | .hbm => 5
  | .vmem => 5
  | .smem => 2
  | _ => 0

abbrev bufTy : (tb : Table) → Fin (tcTables nBuf tb) → BufTy
  | .hbm, ⟨0, _⟩ => ⟨S128x4096, .fp8e4m3⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S128x4096, .fp8e4m3⟩
  | .local _ .vmem, ⟨1, _⟩ => ⟨S4096x256, .f32⟩
  | .local _ .vmem, ⟨2, _⟩ => ⟨S128x4096, .bf16⟩
  | .local _ .vmem, ⟨3, _⟩ => ⟨S2x4096x256, .f32⟩
  | .local _ .vmem, ⟨4, _⟩ => ⟨S32x128x256, .f32⟩
  | .local _ .smem, ⟨0, _⟩ => ⟨S1, .f32⟩
  | .local _ .smem, ⟨1, _⟩ => ⟨S1, .f32⟩
  | _, _ => ⟨S128x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c0_i32_130 : BitVec 32) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v137 : BitVec 32 := Scalar.addi v2 c0_i32_130
  let c32_i32_131 : BitVec 32 := 32#32
  let v138 : BitVec 32 := Scalar.remsi v137 c32_i32_131
  let c256_i32 : BitVec 32 := 256#32
  let v139 : BitVec 32 := Scalar.muli v138 c256_i32
  ![0, v139.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v168 : BitVec 32 := Scalar.muli v2 c128_i32
  let v169 : Index := Scalar.indexCast v168
  let c0_158 : Index := 0#32
  ![v169.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_185 : BitVec 32 := 128#32
  let v199 : BitVec 32 := Scalar.muli v2 c128_i32_185
  let c0_i32_191 : BitVec 32 := 0#32
  ![v199.toNat, 0]
def k0_dev32 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_159 : BitVec 32 := 1#32
  let v171 : BitVec 32 := Scalar.addi v2 c1_i32_159
  let c32_i32_160 : BitVec 32 := 32#32
  let v172 : BitVec 32 := Scalar.remsi v171 c32_i32_160
  let c1_i32_189 : BitVec 32 := 1#32
  let v200 : BitVec 32 := Scalar.muli v172 c1_i32_189
  let v201 : BitVec 32 := Scalar.addi c0_i32_190 v200
  v201.toNat
def k0_dev33 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_194 : BitVec 32 := 2#32
  let v209 : BitVec 32 := Scalar.addi v2 c2_i32_194
  let c32_i32_195 : BitVec 32 := 32#32
  let v210 : BitVec 32 := Scalar.remsi v209 c32_i32_195
  let c1_i32_224 : BitVec 32 := 1#32
  let v238 : BitVec 32 := Scalar.muli v210 c1_i32_224
  let v239 : BitVec 32 := Scalar.addi c0_i32_225 v238
  v239.toNat
def k0_dev34 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_229 : BitVec 32 := 3#32
  let v247 : BitVec 32 := Scalar.addi v2 c3_i32_229
  let c32_i32_230 : BitVec 32 := 32#32
  let v248 : BitVec 32 := Scalar.remsi v247 c32_i32_230
  let c1_i32_259 : BitVec 32 := 1#32
  let v276 : BitVec 32 := Scalar.muli v248 c1_i32_259
  let v277 : BitVec 32 := Scalar.addi c0_i32_260 v276
  v277.toNat
def k0_dev35 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_264 : BitVec 32 := 4#32
  let v285 : BitVec 32 := Scalar.addi v2 c4_i32_264
  let c32_i32_265 : BitVec 32 := 32#32
  let v286 : BitVec 32 := Scalar.remsi v285 c32_i32_265
  let c1_i32_294 : BitVec 32 := 1#32
  let v314 : BitVec 32 := Scalar.muli v286 c1_i32_294
  let v315 : BitVec 32 := Scalar.addi c0_i32_295 v314
  v315.toNat
def k0_dev36 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_299 : BitVec 32 := 5#32
  let v323 : BitVec 32 := Scalar.addi v2 c5_i32_299
  let c32_i32_300 : BitVec 32 := 32#32
  let v324 : BitVec 32 := Scalar.remsi v323 c32_i32_300
  let c1_i32_329 : BitVec 32 := 1#32
  let v352 : BitVec 32 := Scalar.muli v324 c1_i32_329
  let v353 : BitVec 32 := Scalar.addi c0_i32_330 v352
  v353.toNat
def k0_dev37 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_334 : BitVec 32 := 6#32
  let v361 : BitVec 32 := Scalar.addi v2 c6_i32_334
  let c32_i32_335 : BitVec 32 := 32#32
  let v362 : BitVec 32 := Scalar.remsi v361 c32_i32_335
  let c1_i32_364 : BitVec 32 := 1#32
  let v390 : BitVec 32 := Scalar.muli v362 c1_i32_364
  let v391 : BitVec 32 := Scalar.addi c0_i32_365 v390
  v391.toNat
def k0_dev38 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_369 : BitVec 32 := 7#32
  let v399 : BitVec 32 := Scalar.addi v2 c7_i32_369
  let c32_i32_370 : BitVec 32 := 32#32
  let v400 : BitVec 32 := Scalar.remsi v399 c32_i32_370
  let c1_i32_399 : BitVec 32 := 1#32
  let v428 : BitVec 32 := Scalar.muli v400 c1_i32_399
  let v429 : BitVec 32 := Scalar.addi c0_i32_400 v428
  v429.toNat
def k0_dev39 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_404 : BitVec 32 := 8#32
  let v437 : BitVec 32 := Scalar.addi v2 c8_i32_404
  let c32_i32_405 : BitVec 32 := 32#32
  let v438 : BitVec 32 := Scalar.remsi v437 c32_i32_405
  let c1_i32_434 : BitVec 32 := 1#32
  let v466 : BitVec 32 := Scalar.muli v438 c1_i32_434
  let v467 : BitVec 32 := Scalar.addi c0_i32_435 v466
  v467.toNat
def k0_dev40 (d0 : Dev nD) : Nat :=
  let c0_i32_470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_439 : BitVec 32 := 9#32
  let v475 : BitVec 32 := Scalar.addi v2 c9_i32_439
  let c32_i32_440 : BitVec 32 := 32#32
  let v476 : BitVec 32 := Scalar.remsi v475 c32_i32_440
  let c1_i32_469 : BitVec 32 := 1#32
  let v504 : BitVec 32 := Scalar.muli v476 c1_i32_469
  let v505 : BitVec 32 := Scalar.addi c0_i32_470 v504
  v505.toNat
def k0_dev41 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_474 : BitVec 32 := 10#32
  let v513 : BitVec 32 := Scalar.addi v2 c10_i32_474
  let c32_i32_475 : BitVec 32 := 32#32
  let v514 : BitVec 32 := Scalar.remsi v513 c32_i32_475
  let c1_i32_504 : BitVec 32 := 1#32
  let v542 : BitVec 32 := Scalar.muli v514 c1_i32_504
  let v543 : BitVec 32 := Scalar.addi c0_i32_505 v542
  v543.toNat
def k0_dev42 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_509 : BitVec 32 := 11#32
  let v551 : BitVec 32 := Scalar.addi v2 c11_i32_509
  let c32_i32_510 : BitVec 32 := 32#32
  let v552 : BitVec 32 := Scalar.remsi v551 c32_i32_510
  let c1_i32_539 : BitVec 32 := 1#32
  let v580 : BitVec 32 := Scalar.muli v552 c1_i32_539
  let v581 : BitVec 32 := Scalar.addi c0_i32_540 v580
  v581.toNat
def k0_dev43 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_544 : BitVec 32 := 12#32
  let v589 : BitVec 32 := Scalar.addi v2 c12_i32_544
  let c32_i32_545 : BitVec 32 := 32#32
  let v590 : BitVec 32 := Scalar.remsi v589 c32_i32_545
  let c1_i32_574 : BitVec 32 := 1#32
  let v618 : BitVec 32 := Scalar.muli v590 c1_i32_574
  let v619 : BitVec 32 := Scalar.addi c0_i32_575 v618
  v619.toNat
def k0_dev44 (d0 : Dev nD) : Nat :=
  let c0_i32_610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_579 : BitVec 32 := 13#32
  let v627 : BitVec 32 := Scalar.addi v2 c13_i32_579
  let c32_i32_580 : BitVec 32 := 32#32
  let v628 : BitVec 32 := Scalar.remsi v627 c32_i32_580
  let c1_i32_609 : BitVec 32 := 1#32
  let v656 : BitVec 32 := Scalar.muli v628 c1_i32_609
  let v657 : BitVec 32 := Scalar.addi c0_i32_610 v656
  v657.toNat
def k0_dev45 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_614 : BitVec 32 := 14#32
  let v665 : BitVec 32 := Scalar.addi v2 c14_i32_614
  let c32_i32_615 : BitVec 32 := 32#32
  let v666 : BitVec 32 := Scalar.remsi v665 c32_i32_615
  let c1_i32_644 : BitVec 32 := 1#32
  let v694 : BitVec 32 := Scalar.muli v666 c1_i32_644
  let v695 : BitVec 32 := Scalar.addi c0_i32_645 v694
  v695.toNat
def k0_dev46 (d0 : Dev nD) : Nat :=
  let c0_i32_680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_649 : BitVec 32 := 15#32
  let v703 : BitVec 32 := Scalar.addi v2 c15_i32_649
  let c32_i32_650 : BitVec 32 := 32#32
  let v704 : BitVec 32 := Scalar.remsi v703 c32_i32_650
  let c1_i32_679 : BitVec 32 := 1#32
  let v732 : BitVec 32 := Scalar.muli v704 c1_i32_679
  let v733 : BitVec 32 := Scalar.addi c0_i32_680 v732
  v733.toNat
def k0_dev47 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_684 : BitVec 32 := 16#32
  let v741 : BitVec 32 := Scalar.addi v2 c16_i32_684
  let c32_i32_685 : BitVec 32 := 32#32
  let v742 : BitVec 32 := Scalar.remsi v741 c32_i32_685
  let c1_i32_714 : BitVec 32 := 1#32
  let v770 : BitVec 32 := Scalar.muli v742 c1_i32_714
  let v771 : BitVec 32 := Scalar.addi c0_i32_715 v770
  v771.toNat
def k0_dev48 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_719 : BitVec 32 := 17#32
  let v779 : BitVec 32 := Scalar.addi v2 c17_i32_719
  let c32_i32_720 : BitVec 32 := 32#32
  let v780 : BitVec 32 := Scalar.remsi v779 c32_i32_720
  let c1_i32_749 : BitVec 32 := 1#32
  let v808 : BitVec 32 := Scalar.muli v780 c1_i32_749
  let v809 : BitVec 32 := Scalar.addi c0_i32_750 v808
  v809.toNat
def k0_dev49 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_754 : BitVec 32 := 18#32
  let v817 : BitVec 32 := Scalar.addi v2 c18_i32_754
  let c32_i32_755 : BitVec 32 := 32#32
  let v818 : BitVec 32 := Scalar.remsi v817 c32_i32_755
  let c1_i32_784 : BitVec 32 := 1#32
  let v846 : BitVec 32 := Scalar.muli v818 c1_i32_784
  let v847 : BitVec 32 := Scalar.addi c0_i32_785 v846
  v847.toNat
def k0_dev50 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_789 : BitVec 32 := 19#32
  let v855 : BitVec 32 := Scalar.addi v2 c19_i32_789
  let c32_i32_790 : BitVec 32 := 32#32
  let v856 : BitVec 32 := Scalar.remsi v855 c32_i32_790
  let c1_i32_819 : BitVec 32 := 1#32
  let v884 : BitVec 32 := Scalar.muli v856 c1_i32_819
  let v885 : BitVec 32 := Scalar.addi c0_i32_820 v884
  v885.toNat
def k0_dev51 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_824 : BitVec 32 := 20#32
  let v893 : BitVec 32 := Scalar.addi v2 c20_i32_824
  let c32_i32_825 : BitVec 32 := 32#32
  let v894 : BitVec 32 := Scalar.remsi v893 c32_i32_825
  let c1_i32_854 : BitVec 32 := 1#32
  let v922 : BitVec 32 := Scalar.muli v894 c1_i32_854
  let v923 : BitVec 32 := Scalar.addi c0_i32_855 v922
  v923.toNat
def k0_dev52 (d0 : Dev nD) : Nat :=
  let c0_i32_890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_859 : BitVec 32 := 21#32
  let v931 : BitVec 32 := Scalar.addi v2 c21_i32_859
  let c32_i32_860 : BitVec 32 := 32#32
  let v932 : BitVec 32 := Scalar.remsi v931 c32_i32_860
  let c1_i32_889 : BitVec 32 := 1#32
  let v960 : BitVec 32 := Scalar.muli v932 c1_i32_889
  let v961 : BitVec 32 := Scalar.addi c0_i32_890 v960
  v961.toNat
def k0_dev53 (d0 : Dev nD) : Nat :=
  let c0_i32_925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_894 : BitVec 32 := 22#32
  let v969 : BitVec 32 := Scalar.addi v2 c22_i32_894
  let c32_i32_895 : BitVec 32 := 32#32
  let v970 : BitVec 32 := Scalar.remsi v969 c32_i32_895
  let c1_i32_924 : BitVec 32 := 1#32
  let v998 : BitVec 32 := Scalar.muli v970 c1_i32_924
  let v999 : BitVec 32 := Scalar.addi c0_i32_925 v998
  v999.toNat
def k0_dev54 (d0 : Dev nD) : Nat :=
  let c0_i32_960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_929 : BitVec 32 := 23#32
  let v1007 : BitVec 32 := Scalar.addi v2 c23_i32_929
  let c32_i32_930 : BitVec 32 := 32#32
  let v1008 : BitVec 32 := Scalar.remsi v1007 c32_i32_930
  let c1_i32_959 : BitVec 32 := 1#32
  let v1036 : BitVec 32 := Scalar.muli v1008 c1_i32_959
  let v1037 : BitVec 32 := Scalar.addi c0_i32_960 v1036
  v1037.toNat
def k0_dev55 (d0 : Dev nD) : Nat :=
  let c0_i32_995 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_964 : BitVec 32 := 24#32
  let v1045 : BitVec 32 := Scalar.addi v2 c24_i32_964
  let c32_i32_965 : BitVec 32 := 32#32
  let v1046 : BitVec 32 := Scalar.remsi v1045 c32_i32_965
  let c1_i32_994 : BitVec 32 := 1#32
  let v1074 : BitVec 32 := Scalar.muli v1046 c1_i32_994
  let v1075 : BitVec 32 := Scalar.addi c0_i32_995 v1074
  v1075.toNat
def k0_dev56 (d0 : Dev nD) : Nat :=
  let c0_i32_1030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_999 : BitVec 32 := 25#32
  let v1083 : BitVec 32 := Scalar.addi v2 c25_i32_999
  let c32_i32_1000 : BitVec 32 := 32#32
  let v1084 : BitVec 32 := Scalar.remsi v1083 c32_i32_1000
  let c1_i32_1029 : BitVec 32 := 1#32
  let v1112 : BitVec 32 := Scalar.muli v1084 c1_i32_1029
  let v1113 : BitVec 32 := Scalar.addi c0_i32_1030 v1112
  v1113.toNat
def k0_dev57 (d0 : Dev nD) : Nat :=
  let c0_i32_1065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1034 : BitVec 32 := 26#32
  let v1121 : BitVec 32 := Scalar.addi v2 c26_i32_1034
  let c32_i32_1035 : BitVec 32 := 32#32
  let v1122 : BitVec 32 := Scalar.remsi v1121 c32_i32_1035
  let c1_i32_1064 : BitVec 32 := 1#32
  let v1150 : BitVec 32 := Scalar.muli v1122 c1_i32_1064
  let v1151 : BitVec 32 := Scalar.addi c0_i32_1065 v1150
  v1151.toNat
def k0_dev58 (d0 : Dev nD) : Nat :=
  let c0_i32_1100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1069 : BitVec 32 := 27#32
  let v1159 : BitVec 32 := Scalar.addi v2 c27_i32_1069
  let c32_i32_1070 : BitVec 32 := 32#32
  let v1160 : BitVec 32 := Scalar.remsi v1159 c32_i32_1070
  let c1_i32_1099 : BitVec 32 := 1#32
  let v1188 : BitVec 32 := Scalar.muli v1160 c1_i32_1099
  let v1189 : BitVec 32 := Scalar.addi c0_i32_1100 v1188
  v1189.toNat
def k0_dev59 (d0 : Dev nD) : Nat :=
  let c0_i32_1135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1104 : BitVec 32 := 28#32
  let v1197 : BitVec 32 := Scalar.addi v2 c28_i32_1104
  let c32_i32_1105 : BitVec 32 := 32#32
  let v1198 : BitVec 32 := Scalar.remsi v1197 c32_i32_1105
  let c1_i32_1134 : BitVec 32 := 1#32
  let v1226 : BitVec 32 := Scalar.muli v1198 c1_i32_1134
  let v1227 : BitVec 32 := Scalar.addi c0_i32_1135 v1226
  v1227.toNat
def k0_dev60 (d0 : Dev nD) : Nat :=
  let c0_i32_1170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1139 : BitVec 32 := 29#32
  let v1235 : BitVec 32 := Scalar.addi v2 c29_i32_1139
  let c32_i32_1140 : BitVec 32 := 32#32
  let v1236 : BitVec 32 := Scalar.remsi v1235 c32_i32_1140
  let c1_i32_1169 : BitVec 32 := 1#32
  let v1264 : BitVec 32 := Scalar.muli v1236 c1_i32_1169
  let v1265 : BitVec 32 := Scalar.addi c0_i32_1170 v1264
  v1265.toNat
def k0_dev61 (d0 : Dev nD) : Nat :=
  let c0_i32_1205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1174 : BitVec 32 := 30#32
  let v1273 : BitVec 32 := Scalar.addi v2 c30_i32_1174
  let c32_i32_1175 : BitVec 32 := 32#32
  let v1274 : BitVec 32 := Scalar.remsi v1273 c32_i32_1175
  let c1_i32_1204 : BitVec 32 := 1#32
  let v1302 : BitVec 32 := Scalar.muli v1274 c1_i32_1204
  let v1303 : BitVec 32 := Scalar.addi c0_i32_1205 v1302
  v1303.toNat
def k0_dev62 (d0 : Dev nD) : Nat :=
  let c0_i32_1232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1209 : BitVec 32 := 31#32
  let v1311 : BitVec 32 := Scalar.addi v2 c31_i32_1209
  let c32_i32_1210 : BitVec 32 := 32#32
  let v1312 : BitVec 32 := Scalar.remsi v1311 c32_i32_1210
  let c1_i32_1231 : BitVec 32 := 1#32
  let v1332 : BitVec 32 := Scalar.muli v1312 c1_i32_1231
  let v1333 : BitVec 32 := Scalar.addi c0_i32_1232 v1332
  v1333.toNat
def k0_off4 (d0 : Dev nD) (c1_i32_1236 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1341 : BitVec 32 := Scalar.subi v2 c1_i32_1236
  let c32_i32_1237 : BitVec 32 := 32#32
  let v1342 : BitVec 32 := Scalar.addi v1341 c32_i32_1237
  let c32_i32_1238 : BitVec 32 := 32#32
  let v1343 : BitVec 32 := Scalar.remsi v1342 c32_i32_1238
  let c128_i32_1239 : BitVec 32 := 128#32
  let v1344 : BitVec 32 := Scalar.muli v1343 c128_i32_1239
  let c0_i32_1245 : BitVec 32 := 0#32
  ![v1344.toNat, 0]
abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 10
  | .vmem => 2
  | .smem => 0
  | _ => 0

abbrev bufTy : (tb : Table) → Fin (tcTables nBuf tb) → BufTy
  | .hbm, ⟨0, _⟩ => ⟨S4096x4096, .fp8e4m3⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x4096, .f32⟩
  | .hbm, ⟨5, _⟩ => ⟨S4096x8192, .f32⟩
  | .hbm, ⟨6, _⟩ => ⟨S1, .f32⟩
  | .hbm, ⟨7, _⟩ => ⟨S1x1, .f32⟩
  | .hbm, ⟨8, _⟩ => ⟨S4096x8192, .f32⟩
  | .hbm, ⟨9, _⟩ => ⟨S4096x8192, .f32⟩
  | .local _ .vmem, ⟨0, _⟩ => ⟨S4096x4096, .fp8e4m3⟩
  | .local _ .vmem, ⟨1, _⟩ => ⟨S4096x4096, .f32⟩
  | _, _ => ⟨S4096x4096, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Steps.lean ====
/-
The kernel's body written as loops over a step number. The printed body is one long straight line: thirty-one
signals and a wait, a prologue, thirty-two compute steps, thirty-one waits for arrivals, thirty-one waits for
departures. Here each kind of line is written ONCE, at a step `s : Fin 32`, and the body is four loops over them;
that it is the printed body is the kernel's own unfolding (`body_eq`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic Idealize.ShloMosaic.TcCoe
open Idealize.SL.Sem

variable {F : FTy → Type} [FloatOps F]

/-! ## The buffers -/

/-- The staged rows of `x` of this device. -/
abbrev xM : Memref sig .tc .vmem S128x4096 .fp8e4m3 := .whole cc0_stg0_0
/-- The whole weight matrix, in HBM. -/
abbrev wM : Memref sig .tc .hbm S4096x8192 .f32 := .whole main_arg1
/-- The two staged scales. -/
abbrev saM : Memref sig .tc .smem S1 .f32 := .whole cc0_stg1_0
abbrev sbM : Memref sig .tc .smem S1 .f32 := .whole cc0_stg2_0
/-- The staged output columns of this device. -/
abbrev oM : Memref sig .tc .vmem S4096x256 .f32 := .whole cc0_stg3_0
/-- The rows of `x` at bf16. -/
abbrev xbM : Memref sig .tc .vmem S128x4096 .bf16 := .whole cc0_scratch0
/-- The two weight slots. -/
abbrev wbM : Memref sig .tc .vmem S2x4096x256 .f32 := .whole cc0_scratch1
/-- The thirty-two slots of outgoing blocks. -/
abbrev cmM : Memref sig .tc .vmem S32x128x256 .f32 := .whole cc0_scratch2

/-! ## Device numbers and rectangles, at a step -/

/-- The number of the device `s` places after `d`, as the kernel's words compute it. -/
def devAt (s : Nat) (d : Dev nD) : Nat :=
  (Scalar.addi 0#32 (Scalar.muli (Scalar.remsi (Scalar.addi (Scalar.remsi (Scalar.divsi (Dev.word d) 1#32) 32#32)
    (BitVec.ofNat 32 s)) 32#32) 1#32)).toNat

theorem devAt_eq : ∀ (s : Fin 32) (d : Dev nD), devAt s.val d = (d.val + s.val) % 32 := by decide +kernel

theorem devAt_lt (s : Fin 32) (d : Dev nD) : devAt s.val d < nD := by
  rw [devAt_eq]; exact Nat.mod_lt _ (by decide)

/-- The device `s` places after `d`, as a signal or a copy names it. -/
abbrev devTo (s : Fin 32) (d : Dev nD) : Dev nD := ⟨devAt s.val d, devAt_lt s d⟩

/-- The slot a step's weight block lies in. -/
def par (s : Fin 32) : Fin 2 := ⟨s.val % 2, Nat.mod_lt _ (by decide)⟩

theorem inbW : ∀ (b : Fin 2) a, (![b.val, 0, 0] : Fin 3 → Nat) a + S1x4096x256.size a ≤ S2x4096x256.size a := by decide
theorem inbC : ∀ (s : Fin 32) a, (![s.val, 0, 0] : Fin 3 → Nat) a + S1x128x256.size a ≤ S32x128x256.size a := by decide
theorem inbS2 : ∀ (b : Fin 2) a, (![b.val] : Fin 1 → Nat) a + S1.size a ≤ S2.size a := by decide
theorem inbS32 : ∀ (s : Fin 32) a, (![s.val] : Fin 1 → Nat) a + S1.size a ≤ S32.size a := by decide
theorem inbR : ∀ (d : Dev nD) (s : Fin 32) a, (k0_off4 d (BitVec.ofNat 32 s.val)) a + S128x256.size a ≤ S4096x256.size a := by
  decide +kernel

/-- Weight slot `b`, the block's rows of outgoing slot `s`, the output rows a device `d` fills, and the columns of
    the weights step `s` of device `d` reads. -/
abbrev rW (b : Fin 2) : Rect S2x4096x256 := Rect.unit (s := S2x4096x256) ![b.val, 0, 0] S1x4096x256.size (inbW b)
abbrev rC (s : Fin 32) : Rect S32x128x256 := Rect.unit (s := S32x128x256) ![s.val, 0, 0] S1x128x256.size (inbC s)
abbrev rO (d : Dev nD) : Rect S4096x256 := Rect.unit (s := S4096x256) (k0_off3 d) S128x256.size (k0_off3_inb d)
abbrev rV (d : Dev nD) (s : Fin 32) : Rect S4096x8192 :=
  Rect.unit (s := S4096x8192) (k0_off1 d (BitVec.ofNat 32 s.val)) S4096x256.size (k0_off1_inb d s)
abbrev rX : Rect S128x4096 := Rect.unit (s := S128x4096) ![0, 0] S128x4096.size inb_S128x4096_S128x4096_0_0
abbrev rS : Rect S1 := Rect.unit (s := S1) ![0] S1.size inb_S1_S1_0

/-- The memrefs the copies name. -/
abbrev wSlot (b : Fin 2) : Memref sig .tc .vmem S4096x256 .f32 :=
  (wbM.slice (rW b) (fun _ => rfl)).squeeze S4096x256 squeezes_S1x4096x256_S4096x256
abbrev wCols (d : Dev nD) (s : Fin 32) : Memref sig .tc .hbm S4096x256 .f32 := wM.slice (rV d s) (fun _ => rfl)
abbrev cSlot (s : Fin 32) : Memref sig .tc .vmem S128x256 .f32 :=
  (cmM.slice (rC s) (fun _ => rfl)).squeeze S128x256 squeezes_S1x128x256_S128x256
abbrev oRows (d : Dev nD) : Memref sig .tc .vmem S128x256 .f32 := oM.slice (rO d) (fun _ => rfl)

/-- The semaphores the copies complete on, and the barrier semaphore. -/
abbrev copySem (b : Fin 2) : DmaSem sig :=
  ((cc0_scratch3.slice (Rect.unit (s := S2) ![b.val] S1.size (inbS2 b))).squeeze S_ squeezes_S1_S_).sem
abbrev sendSem (s : Fin 32) : DmaSem sig :=
  ((cc0_scratch4.slice (Rect.unit (s := S32) ![s.val] S1.size (inbS32 s))).squeeze S_ squeezes_S1_S_).sem
abbrev recvSem (s : Fin 32) : DmaSem sig :=
  ((cc0_scratch5.slice (Rect.unit (s := S32) ![s.val] S1.size (inbS32 s))).squeeze S_ squeezes_S1_S_).sem
abbrev barSem : Sem sig := (SemArray.scalar (sig.barrier 0 rfl) : Sems sig S_).sem

/-! ## The values -/

/-- The block a step computes: the rows times the weight columns at bf16, scaled. -/
def blk (sc : F .f32) (xb : Vec F S128x4096 .bf16) (wt : Vec F S4096x256 .f32) : FVec F S128x256 .f32 :=
  mulf (matmul dot_S128x4096_S4096x256_S128x256_1_0_0_1_n_n none xb (truncf .bf16 wt bitsLt_bf16_f32 : FVec F S4096x256 .bf16)
    (constant S128x256 .f32 0x00000000#32)) (broadcast S128x256 sc)

/-- A slot read at its whole shape, as the block it holds. -/
def unslot (w : Vec F S1x4096x256 .f32) : Vec F S4096x256 .f32 := shapeCast S4096x256 w shapeCasts_S1x4096x256_S4096x256
/-- A block, as a slot's contents. -/
def inslot (v : FVec F S128x256 .f32) : FVec F S1x128x256 .f32 := shapeCast S1x128x256 v shapeCasts_S128x256_S1x128x256

/-! ## The pieces -/

/-- Programs of the body. -/
abbrev P (F : FTy → Type) [FloatOps F] (α : Type) := Prog (TpuEff nD τ sig (Elt F) Λ₀ .tc) α

/-- `n` turns of `f` from `i` on. -/
def turns (f : Fin 32 → P F PUnit) : (n i : Nat) → i + n ≤ 32 → P F PUnit
  | 0, _, _ => .ret ⟨⟩
  | n + 1, i, h => (f ⟨i, by omega⟩).bind fun _ => turns f n (i + 1) (by omega)

/-- Tell the device `s` places after that this one has entered. -/
def tell (d : Dev nD) (s : Fin 32) : P F PUnit := semSignalWord (devTo s d) barSem 1#32

/-- Start the copy of step `s`'s weight columns into its slot. -/
def fetch (d : Dev nD) (s : Fin 32) : P F PUnit :=
  Prog.lift (.enqueueDma (wCols d s) (.here (wSlot (par s))) (.dma (copySem (par s)))
    (View.wordExact_bits rfl) ((View.wordExact_bits rfl).reshape _ _) ⟨Or.inl rfl, trivial⟩)

/-- Wait for that copy, and read the rows and the slot. -/
def grab (d : Dev nD) (s : Fin 32) : P F (Vec F S128x4096 .bf16 × Vec F S4096x256 .f32) := do
  Prog.lift (.waitDma2 (copySem (par s)) (wCols d s) (wSlot (par s)) (View.wordExact_bits rfl)
    ((View.wordExact_bits rfl).reshape _ _))
  let xb : Vec F S128x4096 .bf16 ← Prog.lift (.load xbM rX.toLoadRect (View.loadsAt_vmem h_S128x4096))
  let wv : Vec F S1x4096x256 .f32 ← Prog.lift (.load wbM (rW (par s)).toLoadRect (View.loadsAt_vmem h_S1x4096x256))
  pure (xb, unslot wv)

/-- Step 0's block goes to the device's own output rows. -/
def keep (d : Dev nD) (v : FVec F S128x256 .f32) : P F PUnit := do
  let _ : Vec F S128x256 .f32 ← Prog.lift (.load oM (rO d).toLoadRect (View.loadsAt_vmem h_S128x256))
  Prog.lift (.store oM (rO d) v Finset.univ (View.stores_vmem_bits_univ h_S128x256 rfl) (.inl rfl))

/-- Any other step's block goes to its slot, and from there to the device it belongs to. -/
def ship (d : Dev nD) (s : Fin 32) (v : FVec F S128x256 .f32) : P F PUnit := do
  let _ : Vec F S1x128x256 .f32 ← Prog.lift (.load cmM (rC s).toLoadRect (View.loadsAt_vmem h_S1x128x256))
  Prog.lift (.store cmM (rC s) (inslot v) Finset.univ (View.stores_vmem_bits_univ h_S1x128x256 rfl) (.inl rfl))
  Prog.lift (.enqueueDma (cSlot s) (.remote (Dev.tc (devTo s d)) (oRows d) (.dma (sendSem s))) (.dma (recvSem s))
    ((View.wordExact_bits rfl).reshape _ _) (View.wordExact_bits rfl) ⟨⟨rfl, Or.inl rfl⟩, trivial⟩)

/-- Step 0. -/
def first (d : Dev nD) (sc : F .f32) : P F PUnit := do
  fetch d 1
  let xw ← grab d 0
  keep d (blk sc xw.1 xw.2)

/-- Step `s ≥ 1`; the last one starts no copy. -/
def step (d : Dev nD) (sc : F .f32) (s : Fin 32) : P F PUnit := do
  let xw ← grab d s
  ship d s (blk sc xw.1 xw.2)

/-- A step that first starts the next one's copy. -/
def fetchStep (d : Dev nD) (sc : F .f32) (s : Fin 32) : P F PUnit :=
  (fetch d (Fin.ofNat 32 (s.val + 1))).bind fun _ => step d sc s

/-- Wait for the block of the device `s` places before. -/
def arrive (d : Dev nD) (s : Fin 32) : P F PUnit :=
  Prog.lift (.waitDma2 (recvSem s) (cSlot s)
    (oM.slice (Rect.unit (s := S4096x256) (k0_off4 d (BitVec.ofNat 32 s.val)) S128x256.size (inbR d s)) (fun _ => rfl))
    ((View.wordExact_bits rfl).reshape _ _) (View.wordExact_bits rfl))

/-- Wait until slot `s` has been sent. -/
def depart (d : Dev nD) (s : Fin 32) : P F PUnit :=
  Prog.lift (.waitDma2 (sendSem s) (oRows d) (cSlot s) (View.wordExact_bits rfl)
    ((View.wordExact_bits rfl).reshape _ _))

/-- The scale, the rows at bf16, and the first copy. -/
def prologue (d : Dev nD) : P F (F .f32) := do
  let a : Elt F .f32 ← smemLoad saM rS numel1_S1 rfl
  let b : Elt F .f32 ← smemLoad sbM rS numel1_S1 rfl
  let x : Vec F S128x4096 .fp8e4m3 ← Prog.lift (.load xM rX.toLoadRect (View.loadsAt_vmem h_S128x4096))
  let _ : Vec F S128x4096 .bf16 ← Prog.lift (.load xbM rX.toLoadRect (View.loadsAt_vmem h_S128x4096))
  Prog.lift (.store xbM rX (k0_pay2 x) Finset.univ
    (View.stores_vmem h_S128x4096 ((Memref.isWhole_whole cc0_scratch0).storeExact_slice rfl _ packedbf16_S128x4096_S128x4096_0_0) (fun _ => rfl)) (.inl rfl))
  pure (k0_pay1 a b)

/-- The body of one device. -/
def body : P F PUnit := do
  let d : Dev nD ← Prog.lift .deviceId
  turns (tell d) 31 1 (by decide)
  semWaitWord barSem 31#32
  let sc ← prologue d
  fetch d 0
  first d sc
  turns (fetchStep d sc) 30 1 (by decide)
  step d sc 31
  turns (arrive d) 31 1 (by decide)
  turns (depart d) 31 1 (by decide)

theorem body_eq : bodyAt0 (F := F) t0_0 = body := by chain_rfl

end Cert.Gather

end
-- ==== Proof.Plan.lean ====
/-
Who tells whom what: the cells, the rounds each goes through, and what every round hands over.

A device has one barrier cell, two cells its weight copies complete on, and a sending and a receiving cell per step.
* Barrier cell, one round: step `s`'s duty is paid by the device `s` places after, which thereby hands over the output
  rows it keeps for this device — the permission to write there is what the wait at entry is for.
* Copy cell `b`, sixteen rounds: round `r` belongs to step `2 r + b`; it hands back the slot, holding that step's weight
  columns, and the share of the weights the copy read with.
* Sending cell `s`: the slot back. Receiving cell `s`: the rows of the device `s` places before, holding its block.
-/
module

public import proofs.«01_k».proof.Proof.Steps

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's, and the exchange's with duties named by steps -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Around the ring -/

/-- The device `s` places after `c`, and the one `s` places before. -/
def up (s : Fin 32) (c : Dev nD) : Dev nD := ⟨(c.val + s.val) % 32, Nat.mod_lt _ (by decide)⟩
def dn (s : Fin 32) (c : Dev nD) : Dev nD := ⟨(c.val + (32 - s.val)) % 32, Nat.mod_lt _ (by decide)⟩
/-- The step that takes as many places as `s` leaves of the ring. -/
def opp (s : Fin 32) : Fin 32 := ⟨(32 - s.val) % 32, Nat.mod_lt _ (by decide)⟩
/-- How many places `c` is after `d`. -/
def off (c d : Dev nD) : Fin 32 := ⟨(c.val + (32 - d.val)) % 32, Nat.mod_lt _ (by decide)⟩

theorem dn_up (s : Fin 32) (c : Dev nD) : dn s (up s c) = c := by
  have h1 := c.isLt; have h2 := s.isLt
  apply Fin.ext; simp only [dn, up]; change c.val < 32 at h1; omega
theorem up_dn (s : Fin 32) (c : Dev nD) : up s (dn s c) = c := by
  have h1 := c.isLt; have h2 := s.isLt
  apply Fin.ext; simp only [dn, up]; change c.val < 32 at h1; omega
theorem up_opp (s : Fin 32) (c : Dev nD) : up (opp s) c = dn s c := by
  have h1 := c.isLt; have h2 := s.isLt
  apply Fin.ext; simp only [dn, up, opp]; change c.val < 32 at h1; omega
theorem opp_opp (s : Fin 32) : opp (opp s) = s := by
  have h2 := s.isLt
  apply Fin.ext; simp only [opp]; omega
theorem dn_off (c d : Dev nD) : dn (off c d) c = d := by
  have h1 := c.isLt; have h2 := d.isLt
  apply Fin.ext; simp only [dn, off]; change c.val < 32 at h1; change d.val < 32 at h2; omega
theorem off_dn (s : Fin 32) (c : Dev nD) : off c (dn s c) = s := by
  have h1 := c.isLt; have h2 := s.isLt
  apply Fin.ext; simp only [dn, off]; change c.val < 32 at h1; omega
theorem up_off (c d : Dev nD) : up (off c d) d = c := by
  have h := congrArg (up (off c d)) (dn_off c d); rw [up_dn] at h; exact h.symm

theorem devTo_eq (s : Fin 32) (c : Dev nD) : devTo s c = up s c := Fin.ext (devAt_eq s c)

/-- The ring turned by `s` places. -/
def turn (s : Fin 32) : Dev nD ≃ Dev nD := ⟨up s, dn s, dn_up s, up_dn s⟩

/-! ## The cells -/

/-- The kernel's own semaphores, and all it uses. -/
abbrev OI : Type := Fin 2 ⊕ (Fin 32 ⊕ Fin 32)
abbrev CI : Type := Unit ⊕ OI
abbrev osem : OI → SemLoc sig
  | .inl b => .dma (copySem b)
  | .inr (.inl s) => .dma (sendSem s)
  | .inr (.inr s) => .dma (recvSem s)
abbrev csem : CI → SemLoc sig
  | .inl _ => .reg barSem
  | .inr k => osem k
abbrev kcell (ck : Dev nD × CI) : GSem nD τ sig := ((ck.1 : Thread nD τ), csem ck.2)

abbrev barCell (c : Dev nD) : GSem nD τ sig := ((c : Thread nD τ), .reg barSem)
abbrev copyCell (c : Dev nD) (b : Fin 2) : GSem nD τ sig := ((c : Thread nD τ), .dma (copySem b))
abbrev sendCell (c : Dev nD) (s : Fin 32) : GSem nD τ sig := ((c : Thread nD τ), .dma (sendSem s))
abbrev recvCell (c : Dev nD) (s : Fin 32) : GSem nD τ sig := ((c : Thread nD τ), .dma (recvSem s))

/-- Which of them a semaphore is, read off its number. -/
def kindOf : SemLoc sig → Option CI
  | .reg s => if s = barSem then some (.inl ()) else none
  | .dma q =>
    if q.val < 4 then none
    else if h : q.val - 4 < 2 then some (.inr (.inl ⟨q.val - 4, h⟩))
    else if h : q.val - 6 < 32 then some (.inr (.inr (.inl ⟨q.val - 6, h⟩)))
    else if h : q.val - 38 < 32 then some (.inr (.inr (.inr ⟨q.val - 38, h⟩)))
    else none

theorem kindOf_bar : kindOf (.reg barSem) = some (.inl ()) := by decide
theorem kindOf_osem : ∀ k : OI, kindOf (osem k) = some (.inr k) := by decide +kernel
theorem kindOf_copy (b : Fin 2) : kindOf (.dma (copySem b)) = some (.inr (.inl b)) := kindOf_osem (.inl b)
theorem kindOf_send (s : Fin 32) : kindOf (.dma (sendSem s)) = some (.inr (.inr (.inl s))) := kindOf_osem (.inr (.inl s))
theorem kindOf_recv (s : Fin 32) : kindOf (.dma (recvSem s)) = some (.inr (.inr (.inr s))) := kindOf_osem (.inr (.inr s))
theorem kindOf_csem : ∀ k : CI, kindOf (csem k) = some k
  | .inl () => kindOf_bar
  | .inr k => kindOf_osem k
theorem csem_injective : Function.Injective csem := fun k k' h => by
  have h' := congrArg kindOf h; rw [kindOf_csem, kindOf_csem] at h'; exact Option.some.inj h'

/-! ## Contents -/

/-- The rows of `x` device `c` is given, staged; its scales; their product. -/
def xs (c : Dev nD) : (cc0_stg0_0 : Ref sig .tc).ty.Contents (Elt F) :=
  (win0_0.blk (0 : Fin 1)).view.read (Elt F) (m ((c : Thread nD τ).loc main_arg0))
def sa (c : Dev nD) : (cc0_stg1_0 : Ref sig .tc).ty.Contents (Elt F) :=
  (win0_1.blk (0 : Fin 1)).view.read (Elt F) (m ((c : Thread nD τ).loc main_arg2))
def sb (c : Dev nD) : (cc0_stg2_0 : Ref sig .tc).ty.Contents (Elt F) :=
  (win0_2.blk (0 : Fin 1)).view.read (Elt F) (m ((c : Thread nD τ).loc main_arg3))
abbrev i0 : S1.Idx := Shape.Idx.first (numel1_S1.symm ▸ Nat.one_pos)
def sc (c : Dev nD) : F .f32 := k0_pay1 (sa m c i0) (sb m c i0)
/-- The rows at bf16. -/
def xb (c : Dev nD) : (cc0_scratch0 : Ref sig .tc).ty.Contents (Elt F) := k0_pay2 (xs m c)
/-- The weights device `c` holds, and the columns it reads at step `s`. -/
abbrev wAll (c : Dev nD) : Buf (Elt F) ((c : Thread nD τ).loc main_arg1) := m ((c : Thread nD τ).loc main_arg1)
def wt (c : Dev nD) (s : Fin 32) : Vec F S4096x256 .f32 := (wCols c s).view.read (Elt F) (wAll m c)
/-- The block it computes there, for the device `s` places after. -/
def blkAt (c : Dev nD) (s : Fin 32) : FVec F S128x256 .f32 := blk (sc m c) (xb m c) (wt m c s)

/-! ## Pieces of the buffers -/

/-- Slot `s` of the outgoing blocks, slot `b` of the weights, the rows of `e` on `d`: at contents `f` of the buffer. -/
def cPts (c : Dev nD) (s : Fin 32) (f : Buf (Elt F) ((c : Thread nD τ).loc cc0_scratch2)) : sProp 𝕄 :=
  (cSlot s).view.loc (c : Thread nD τ) ↦[(cSlot s).view.set]{fullShare} f
def wPts (c : Dev nD) (b : Fin 2) (f : Buf (Elt F) ((c : Thread nD τ).loc cc0_scratch1)) : sProp 𝕄 :=
  (wSlot b).view.loc (c : Thread nD τ) ↦[(wSlot b).view.set]{fullShare} f
def oPts (d e : Dev nD) (f : Buf (Elt F) ((d : Thread nD τ).loc cc0_stg3_0)) : sProp 𝕄 :=
  (oRows e).view.loc (d : Thread nD τ) ↦[(oRows e).view.set]{fullShare} f
/-- Half of the weights' ownership goes with each slot. -/
def half (b : Fin 2) : PosShare TreeShare := if b = 0 then fullShare.left else fullShare.right
/-- The columns of step `s`, at its slot's half. -/
def vPts (c : Dev nD) (s : Fin 32) (b : Fin 2) : sProp 𝕄 :=
  (wCols c s).view.loc (c : Thread nD τ) ↦[(wCols c s).view.set]{half b} wAll m c

instance cPts_storable (c : Dev nD) (s : Fin 32) (f) : BI.Storable (upEmb : UEmb _ 𝕄) (cPts (F := F) c s f) := by
  unfold cPts; infer_instance
instance wPts_storable (c : Dev nD) (b : Fin 2) (f) : BI.Storable (upEmb : UEmb _ 𝕄) (wPts (F := F) c b f) := by
  unfold wPts; infer_instance
instance oPts_storable (d e : Dev nD) (f) : BI.Storable (upEmb : UEmb _ 𝕄) (oPts (F := F) d e f) := by
  unfold oPts; infer_instance
instance vPts_storable (c : Dev nD) (s : Fin 32) (b : Fin 2) : BI.Storable (upEmb : UEmb _ 𝕄) (vPts (F := F) m c s b) := by
  unfold vPts; infer_instance

/-! ## The rounds -/

/-- The steps from `i` on. -/
def ahead (i : Nat) : Finset (Fin 32) := Finset.univ.filter fun s => i ≤ s.val

theorem mem_ahead {i : Nat} {s : Fin 32} : s ∈ ahead i ↔ i ≤ s.val := by simp [ahead]

/-- The step round `r` of copy cell `b` belongs to. -/
def stepOf (b : Fin 2) (r : Nat) : Fin 32 := Fin.ofNat 32 (2 * r + b.val)
/-- A step's slot and round, for any number. -/
def slotOf (n : Nat) : Fin 2 := ⟨n % 2, Nat.mod_lt _ (by decide)⟩

theorem stepOf_eq (n : Nat) : stepOf (slotOf n) (n / 2) = Fin.ofNat 32 n := by
  unfold stepOf slotOf; congr 1; show 2 * (n / 2) + n % 2 = n; omega
theorem ofNat_val (s : Fin 32) : Fin.ofNat 32 s.val = s := Fin.ext (Nat.mod_eq_of_lt s.isLt)

/-- A weight slot's credit, and a block's. -/
@[irreducible] def NW : ℕ := (wSlot 0).view.dmaCredit
@[irreducible] def NB : ℕ := (cSlot 0).view.dmaCredit

theorem NW_pos : 0 < NW := by unfold NW; exact View.dmaCredit_pos _ (by decide)
theorem NB_pos : 0 < NB := by unfold NB; exact View.dmaCredit_pos _ (by decide)

def barPay (c : Dev nD) (t : Fin 32) : sProp 𝕄 := iprop(∃ f, oPts (up t c) c f)
def copyPay (c : Dev nD) (b : Fin 2) (s : Fin 32) : sProp 𝕄 :=
  iprop((∃ f, ⌜(wSlot b).view.read (Elt F) f = wt m c s⌝ ∗ wPts c b f) ∗ vPts m c s b)
def sendPay (c : Dev nD) (s : Fin 32) : sProp 𝕄 := iprop(∃ f, cPts c s f)
def recvPay (c : Dev nD) (s : Fin 32) : sProp 𝕄 :=
  iprop(∃ f, ⌜(oRows (dn s c)).view.read (Elt F) f = blkAt m (dn s c) s⌝ ∗ oPts c (dn s c) f)

instance barPay_storable (c : Dev nD) (t : Fin 32) : BI.Storable (upEmb : UEmb _ 𝕄) (barPay (F := F) c t) := by
  unfold barPay; infer_instance
instance copyPay_storable (c : Dev nD) (b : Fin 2) (s : Fin 32) : BI.Storable (upEmb : UEmb _ 𝕄) (copyPay (F := F) m c b s) := by
  unfold copyPay; infer_instance
instance sendPay_storable (c : Dev nD) (s : Fin 32) : BI.Storable (upEmb : UEmb _ 𝕄) (sendPay (F := F) c s) := by
  unfold sendPay; infer_instance
instance recvPay_storable (c : Dev nD) (s : Fin 32) : BI.Storable (upEmb : UEmb _ 𝕄) (recvPay (F := F) m c s) := by
  unfold recvPay; infer_instance

/-- The duties of a kind's round, their amount, and what they hand over. -/
def dutiesK : Option CI → ℕ → Finset (Fin 32)
  | some (.inl _), r => if r = 0 then ahead 1 else ∅
  | some (.inr (.inl _)), r => if r < 16 then {0} else ∅
  | some (.inr (.inr (.inl s))), r => if r = 0 ∧ 1 ≤ s.val then {0} else ∅
  | some (.inr (.inr (.inr s))), r => if r = 0 ∧ 1 ≤ s.val then {0} else ∅
  | none, _ => ∅
def amountK : Option CI → ℕ
  | some (.inl _) => 1
  | some (.inr (.inl _)) => NW
  | some (.inr (.inr _)) => NB
  | none => 1
def payloadK (c : Dev nD) : Option CI → ℕ → Fin 32 → sProp 𝕄
  | some (.inl _), _, t => barPay c t
  | some (.inr (.inl b)), r, _ => copyPay m c b (stepOf b r)
  | some (.inr (.inr (.inl s))), _, _ => sendPay c s
  | some (.inr (.inr (.inr s))), _, _ => recvPay m c s
  | none, _, _ => iprop(emp)

theorem amountK_pos : ∀ k, 0 < amountK k
  | some (.inl _) => Nat.one_pos
  | some (.inr (.inl _)) => NW_pos
  | some (.inr (.inr _)) => NB_pos
  | none => Nat.one_pos

instance payloadK_storable (c : Dev nD) : ∀ (k : Option CI) (r : ℕ) (d : Fin 32),
    BI.Storable (upEmb : UEmb _ 𝕄) (payloadK (F := F) m c k r d)
  | some (.inl _), _, t => by unfold payloadK; infer_instance
  | some (.inr (.inl b)), r, _ => by unfold payloadK; infer_instance
  | some (.inr (.inr (.inl s))), _, _ => by unfold payloadK; infer_instance
  | some (.inr (.inr (.inr s))), _, _ => by unfold payloadK; infer_instance
  | none, _, _ => by unfold payloadK; infer_instance

/-- The rounds of every cell. -/
def plan : Rounds.Schedule (GSem nD τ sig) (Fin 32) 𝕄 where
  duties g r := dutiesK (kindOf g.2) r
  unitless _ := False
  amount g _ _ := amountK (kindOf g.2)
  payload g r d := payloadK m g.1.1 (kindOf g.2) r d
  amount_pos g _ _ _ := amountK_pos _

instance plan_storable (g : GSem nD τ sig) (r : ℕ) (d : Fin 32) :
    BI.Storable (upEmb : UEmb _ 𝕄) ((plan (F := F) m).payload g r d) := payloadK_storable m _ _ _ _

section At
variable (c : Dev nD)

theorem plan_duties {sm : SemLoc sig} {k : CI} (h : kindOf sm = some k) (r : ℕ) :
    (plan (F := F) m).duties ((c : Thread nD τ), sm) r = dutiesK (some k) r := congrArg (fun k => dutiesK k r) h
theorem plan_amount {sm : SemLoc sig} {k : CI} (h : kindOf sm = some k) (r : ℕ) (d : Fin 32) :
    (plan (F := F) m).amount ((c : Thread nD τ), sm) r d = amountK (some k) := congrArg amountK h
theorem plan_payload {sm : SemLoc sig} {k : CI} (h : kindOf sm = some k) (r : ℕ) (d : Fin 32) :
    (plan (F := F) m).payload ((c : Thread nD τ), sm) r d = payloadK m c (some k) r d := congrArg (fun k => payloadK m c k r d) h

theorem duties_bar : (plan (F := F) m).duties (barCell c) 0 = ahead 1 := by
  rw [plan_duties m c kindOf_bar]; rfl
theorem duties_copy (b : Fin 2) {r : ℕ} (hr : r < 16) : (plan (F := F) m).duties (copyCell c b) r = {0} := by
  rw [plan_duties m c (kindOf_copy _)]; exact if_pos hr
theorem duties_send {s : Fin 32} (hs : 1 ≤ s.val) : (plan (F := F) m).duties (sendCell c s) 0 = {0} := by
  rw [plan_duties m c (kindOf_send _)]; exact if_pos ⟨rfl, hs⟩
theorem duties_recv {s : Fin 32} (hs : 1 ≤ s.val) : (plan (F := F) m).duties (recvCell c s) 0 = {0} := by
  rw [plan_duties m c (kindOf_recv _)]; exact if_pos ⟨rfl, hs⟩

theorem later_bar : ∀ r, 1 ≤ r → (plan (F := F) m).duties (barCell c) r = ∅ := fun r hr => by
  rw [plan_duties m c kindOf_bar]; exact if_neg (by omega)
theorem later_copy (b : Fin 2) : ∀ r, 16 ≤ r → (plan (F := F) m).duties (copyCell c b) r = ∅ := fun r hr => by
  rw [plan_duties m c (kindOf_copy _)]; exact if_neg (by omega)
theorem later_send (s : Fin 32) : ∀ r, 1 ≤ r → (plan (F := F) m).duties (sendCell c s) r = ∅ := fun r hr => by
  rw [plan_duties m c (kindOf_send _)]; exact if_neg (by omega)
theorem later_recv (s : Fin 32) : ∀ r, 1 ≤ r → (plan (F := F) m).duties (recvCell c s) r = ∅ := fun r hr => by
  rw [plan_duties m c (kindOf_recv _)]; exact if_neg (by omega)
theorem never_send : ∀ r, 0 ≤ r → (plan (F := F) m).duties (sendCell c 0) r = ∅ := fun r hr => by
  rw [plan_duties m c (kindOf_send _)]; exact if_neg (fun h => absurd h.2 (by decide))
theorem never_recv : ∀ r, 0 ≤ r → (plan (F := F) m).duties (recvCell c 0) r = ∅ := fun r hr => by
  rw [plan_duties m c (kindOf_recv _)]; exact if_neg (fun h => absurd h.2 (by decide))

theorem amount_bar (r : ℕ) (d : Fin 32) : (plan (F := F) m).amount (barCell c) r d = 1 := by
  rw [plan_amount m c kindOf_bar]; rfl
theorem amount_copy (b : Fin 2) (r : ℕ) (d : Fin 32) : (plan (F := F) m).amount (copyCell c b) r d = NW := by
  rw [plan_amount m c (kindOf_copy _)]; rfl
theorem amount_send (s : Fin 32) (r : ℕ) (d : Fin 32) : (plan (F := F) m).amount (sendCell c s) r d = NB := by
  rw [plan_amount m c (kindOf_send _)]; rfl
theorem amount_recv (s : Fin 32) (r : ℕ) (d : Fin 32) : (plan (F := F) m).amount (recvCell c s) r d = NB := by
  rw [plan_amount m c (kindOf_recv _)]; rfl

theorem payload_bar (r : ℕ) (t : Fin 32) : (plan (F := F) m).payload (barCell c) r t = barPay c t := by
  rw [plan_payload m c kindOf_bar]; rfl
theorem payload_copy (b : Fin 2) (r : ℕ) (d : Fin 32) :
    (plan (F := F) m).payload (copyCell c b) r d = copyPay m c b (stepOf b r) := by
  rw [plan_payload m c (kindOf_copy _)]; rfl
theorem payload_send (s : Fin 32) (r : ℕ) (d : Fin 32) : (plan (F := F) m).payload (sendCell c s) r d = sendPay c s := by
  rw [plan_payload m c (kindOf_send _)]; rfl
theorem payload_recv (s : Fin 32) (r : ℕ) (d : Fin 32) : (plan (F := F) m).payload (recvCell c s) r d = recvPay m c s := by
  rw [plan_payload m c (kindOf_recv _)]; rfl

theorem expect_bar : (plan (F := F) m).expect (barCell c) 0 = 31 := by
  unfold Schedule.expect Schedule.amountOf
  rw [duties_bar, Finset.sum_congr rfl fun d _ => amount_bar m c 0 d]; decide
theorem expect_copy (b : Fin 2) {r : ℕ} (hr : r < 16) : (plan (F := F) m).expect (copyCell c b) r = NW := by
  unfold Schedule.expect Schedule.amountOf; rw [duties_copy m c b hr, Finset.sum_singleton, amount_copy]
theorem expect_send {s : Fin 32} (hs : 1 ≤ s.val) : (plan (F := F) m).expect (sendCell c s) 0 = NB := by
  unfold Schedule.expect Schedule.amountOf; rw [duties_send m c hs, Finset.sum_singleton, amount_send]
theorem expect_recv {s : Fin 32} (hs : 1 ≤ s.val) : (plan (F := F) m).expect (recvCell c s) 0 = NB := by
  unfold Schedule.expect Schedule.amountOf; rw [duties_recv m c hs, Finset.sum_singleton, amount_recv]

/-- What the rest of a round, no duty of it taken, hands over. -/
theorem rest_bar : bigSep ((plan (F := F) m).duties (barCell c) 0 \ ∅) (fun d => (plan (F := F) m).payload (barCell c) 0 d)
    = bigSep (ahead 1) (fun t => barPay c t) := by
  rw [Finset.sdiff_empty, duties_bar]; exact bigSep_congr fun t _ => payload_bar m c 0 t
theorem rest_copy (b : Fin 2) {r : ℕ} (hr : r < 16) :
    bigSep ((plan (F := F) m).duties (copyCell c b) r \ ∅) (fun d => (plan (F := F) m).payload (copyCell c b) r d)
      = copyPay m c b (stepOf b r) := by
  rw [Finset.sdiff_empty, duties_copy m c b hr, bigSep_singleton, payload_copy]
theorem rest_send {s : Fin 32} (hs : 1 ≤ s.val) :
    bigSep ((plan (F := F) m).duties (sendCell c s) 0 \ ∅) (fun d => (plan (F := F) m).payload (sendCell c s) 0 d)
      = sendPay c s := by
  rw [Finset.sdiff_empty, duties_send m c hs, bigSep_singleton, payload_send]
theorem rest_recv {s : Fin 32} (hs : 1 ≤ s.val) :
    bigSep ((plan (F := F) m).duties (recvCell c s) 0 \ ∅) (fun d => (plan (F := F) m).payload (recvCell c s) 0 d)
      = recvPay m c s := by
  rw [Finset.sdiff_empty, duties_recv m c hs, bigSep_singleton, payload_recv]

end At

/-! ## What a device owes at launch; the levels -/

/-- The arrivals it still owes from step `i` on, and the signals. -/
def oweR (c : Dev nD) (i : Nat) : CellTallies nD τ sig Unit := ∑ s ∈ ahead i, tallyAt (recvCell (up s c) s) () NB
def oweB (c : Dev nD) (i : Nat) : CellTallies nD τ sig Unit := ∑ s ∈ ahead i, tallyAt (barCell (up s c)) () 1
def O₀ (c : Dev nD) : CellTallies nD τ sig Unit := oweR c 1 + oweB c 1

theorem ahead_succ (s : Fin 32) : ahead s.val = insert s (ahead (s.val + 1)) := by
  ext t; rw [Finset.mem_insert, mem_ahead, mem_ahead, Fin.ext_iff]; omega
theorem not_mem_ahead_succ (s : Fin 32) : s ∉ ahead (s.val + 1) := by rw [mem_ahead]; omega
theorem ahead_end : ahead 32 = ∅ := by decide

theorem oweR_succ (c : Dev nD) (s : Fin 32) : oweR c s.val = oweR c (s.val + 1) + tallyAt (recvCell (up s c) s) () NB := by
  unfold oweR; rw [ahead_succ, Finset.sum_insert (not_mem_ahead_succ s), add_comm]
theorem oweB_succ (c : Dev nD) (s : Fin 32) : oweB c s.val = oweB c (s.val + 1) + tallyAt (barCell (up s c)) () 1 := by
  unfold oweB; rw [ahead_succ, Finset.sum_insert (not_mem_ahead_succ s), add_comm]
theorem oweR_end (c : Dev nD) : oweR c 32 = 0 := by unfold oweR; rw [ahead_end]; rfl
theorem oweB_end (c : Dev nD) : oweB c 32 = 0 := by unfold oweB; rw [ahead_end]; rfl

/-- Indices are recorded on the tensor cores' cells. -/
def L (g : GSem nD τ sig) : Finset Unit := if g.1.2 = .tc then {()} else ∅
/-- Barrier cells at 1, receiving cells at 2, everything else at 0. -/
def lvK : Option CI → ℕ
  | some (.inl _) => 1
  | some (.inr (.inr (.inr _))) => 2
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [kindOf_bar]; rfl
theorem lv_copy (c : Dev nD) (b : Fin 2) (u : Unit) : lv (copyCell c b) u = 0 := by unfold lv; rw [kindOf_copy]; rfl
theorem lv_recv (c : Dev nD) (s : Fin 32) (u : Unit) : lv (recvCell c s) u = 2 := by unfold lv; rw [kindOf_recv]; rfl

theorem sum_tally_pos {S : Finset (Fin 32)} {cell : Fin 32 → GSem nD τ sig} {n : ℕ} {g : GSem nD τ sig} {u : Unit}
    (h : 0 < (∑ s ∈ S, (tallyAt (cell s) () n : CellTallies nD τ sig Unit)) g u) : ∃ s, g = cell s := by
  classical
  induction S using Finset.induction_on with
  | empty => rw [Finset.sum_empty] at h; exact absurd h (Nat.lt_irrefl 0)
  | insert s S hs ih =>
    rw [Finset.sum_insert hs, Pi.add_apply, Finsupp.add_apply, tallyAt_apply] at h
    by_cases hg : g = cell s
    · exact ⟨s, hg⟩
    · rw [if_neg (fun h' => hg h'.1), Nat.zero_add] at h; exact ih h

/-- Whatever is owed is owed to a tensor core's receiving cell, or barrier cell. -/
theorem oweR_pos {c : Dev nD} {i : Nat} {g : GSem nD τ sig} {u : Unit} (h : 0 < oweR c i g u) :
    ∃ d s, g = recvCell d s := by
  obtain ⟨s, hs⟩ := sum_tally_pos h; exact ⟨_, s, hs⟩
theorem owe_pos {c : Dev nD} {i j : Nat} {g : GSem nD τ sig} {u : Unit} (h : 0 < (oweR c i + oweB c j) g u) :
    (∃ d s, g = recvCell d s) ∨ ∃ d, g = barCell d := by
  rw [Pi.add_apply, Finsupp.add_apply] at h
  rcases Nat.eq_zero_or_pos (oweR c i g u) with h0 | h0
  · rw [h0, Nat.zero_add] at h
    obtain ⟨s, hs⟩ := sum_tally_pos (S := ahead j) (cell := fun s => barCell (up s c)) h
    exact .inr ⟨_, hs⟩
  · exact .inl (oweR_pos h0)

/-- A wait on a cell below the receiving cells, owing arrivals only. -/
theorem mayWait_owing (c : Dev nD) (sm : SemLoc sig) (i : Nat) (h : lvK (kindOf sm) < 2) :
    (levAts L lv : sProp 𝕄) ⊢ MayWait (c : Thread nD τ) sm () (oweR c i) :=
  MayOwe.of_cut (L := L) (lev := lv) 1 (fun p hp => by rw [Finset.mem_singleton.mp hp, L_tc]; exact Finset.mem_singleton_self _)
    (fun g u hg => by obtain ⟨d, s, rfl⟩ := oweR_pos hg; exact Finset.mem_singleton_self _)
    (fun p hp => by rw [Finset.mem_singleton.mp hp]; exact Nat.le_of_lt_succ h)
    (fun g u hg => by obtain ⟨d, s, rfl⟩ := oweR_pos hg; rw [lv_recv]; decide)

/-- A wait on a staging semaphore, whatever is owed. -/
theorem mayWait_stage (c : Dev nD) (sm : SemLoc sig) (h : lvK (kindOf sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases owe_pos hg with ⟨d, s, rfl⟩ | ⟨d, rfl⟩ <;> exact Finset.mem_singleton_self _)
      (fun p hp => by rw [Finset.mem_singleton.mp hp]; exact Nat.le_of_eq h)
      (fun g u hg => by
        rcases owe_pos hg with ⟨d, s, rfl⟩ | ⟨d, rfl⟩
        · rw [lv_recv]; decide
        · rw [lv_bar]; decide)
  · rw [MayWait_zero]; iintro -; iempintro

/-! ## The record every device carries -/

/-- Every cell's level is on record. -/
def levels : sProp 𝕄 := levAts L lv
instance levels_persistent : BI.Persistent (levels (F := F)) := by unfold levels; infer_instance

/-- Every cell's invariant, at the names the launch chose, and that every cell has begun. -/
def records (K : Dev nD × CI → ℕ) : sProp 𝕄 :=
  iprop((bigSep Finset.univ fun ck : Dev nD × CI => cellInv ER (plan m) (K ck) (kcell ck))
    ∗ (bigSep Finset.univ fun ck : Dev nD × CI => reached ER (kcell ck) 0) ∗ levels)

instance records_persistent (K : Dev nD × CI → ℕ) : BI.Persistent (records (F := F) m K) := by unfold records; infer_instance

theorem inv_at (K : Dev nD × CI → ℕ) (ck : Dev nD × CI) : records m K ⊢ (cellInv ER (plan m) (K ck) (kcell ck) : sProp 𝕄) :=
  sep_elim_left.trans (bigSep_elim (Φ := fun ck : Dev nD × CI => (cellInv ER (plan m) (K ck) (kcell ck) : sProp 𝕄)) (Finset.mem_univ ck))
theorem begun_at (K : Dev nD × CI → ℕ) (ck : Dev nD × CI) : records m K ⊢ (reached ER (kcell ck) 0 : sProp 𝕄) :=
  sep_elim_right.trans (sep_elim_left.trans
    (bigSep_elim (Φ := fun ck : Dev nD × CI => (reached ER (kcell ck) 0 : sProp 𝕄)) (Finset.mem_univ ck)))

end Cert.Gather

end
-- ==== Proof.Moves.lean ====
/-
The moves of the body, each once, at any step: telling a device one has entered, starting a weight copy, waiting for
it, sending a block, waiting for one's own blocks and for one's sends. And the rule for a run of turns.
-/
module

public import proofs.«01_k».proof.Proof.Plan

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running `p` on device `c`. -/
abbrev wpc (c : Dev nD) {α : Type} (p : P F α) (Q : α → sProp 𝕄) : sProp 𝕄 :=
  wp frame (wpE (defs₀ (F := F)) 𝒱₀ (c : Thread nD τ) none) Set.univ p Q

/-! ## Turns -/

/-- The steps from `i`, `n` of them. -/
def span (i n : Nat) : Finset (Fin 32) := Finset.univ.filter fun s => i ≤ s.val ∧ s.val < i + n

theorem mem_span {i n : Nat} {s : Fin 32} : s ∈ span i n ↔ i ≤ s.val ∧ s.val < i + n := by simp [span]
theorem span_zero (i : Nat) : span i 0 = ∅ := by
  ext s; rw [mem_span]; exact ⟨fun h => by omega, fun h => absurd h (Finset.notMem_empty s)⟩
theorem span_succ (n i : Nat) (h : i < 32) : span i (n + 1) = insert ⟨i, h⟩ (span (i + 1) n) := by
  ext s; rw [Finset.mem_insert, mem_span, mem_span, Fin.ext_iff]; simp only; omega
theorem not_mem_span (n i : Nat) (h : i < 32) : (⟨i, h⟩ : Fin 32) ∉ span (i + 1) n := by rw [mem_span]; simp only; omega

theorem bigSep_cons {s : Fin 32} {S : Finset (Fin 32)} (h : s ∉ S) (A : Fin 32 → sProp 𝕄) :
    bigSep (insert s S) A = iprop(A s ∗ bigSep S A) := bigSep_insert h

/-- A run of turns, one rule per turn: an invariant carried along, and a resource per turn spent for another. -/
theorem wp_turns (c : Dev nD) {R : sProp 𝕄} [BI.Persistent R] (f : Fin 32 → P F PUnit) (I : ℕ → sProp 𝕄) (A B : Fin 32 → sProp 𝕄)
    (lo hi : Nat) (hf : ∀ s : Fin 32, lo ≤ s.val → s.val < hi → iprop(R ∗ I s.val ∗ A s) ⊢ wpc c (f s) (fun _ => iprop(I (s.val + 1) ∗ B s))) :
    ∀ (n i : Nat) (h : i + n ≤ 32), lo ≤ i → i + n ≤ hi →
      iprop(R ∗ I i ∗ bigSep (span i n) A) ⊢ wpc c (turns f n i h) (fun _ => iprop(I (i + n) ∗ bigSep (span i n) B))
  | 0, i, h, _, _ => by
    unfold turns wpc
    rw [wp_ret, span_zero, bigSep_empty, bigSep_empty]
    iintro ⟨-, HI, -⟩
    imodintro
    isplitl [HI]; · iexact HI
    iempintro
  | n + 1, i, h, hl, hh => by
    have hi' : i < 32 := by omega
    unfold turns wpc
    rw [span_succ n i hi', bigSep_cons (not_mem_span n i hi') A, bigSep_cons (not_mem_span n i hi') B]
    refine BIBase.Entails.trans ?_ (Entails.of_eq (wp_bind _ _ _ _ _ _).symm)
    iintro ⟨#HR, HI, HA, HAs⟩
    ihave Hw := (hf ⟨i, hi'⟩ hl (by show i < hi; omega)) $$ [HI HA]
    · isplitr; · iexact HR
      isplitl [HI]; · iexact HI
      iexact HA
    unfold wpc
    iapply (wp_wand _ _ _) $$ Hw
    iintro %u ⟨HI, HB⟩
    ihave Hw := (wp_turns c f I A B lo hi hf n (i + 1) (by omega) (by omega) (by omega)) $$ [HI HAs]
    · isplitr; · iexact HR
      isplitl [HI]; · iexact HI
      iexact HAs
    unfold wpc
    iapply (wp_wand _ _ _) $$ Hw
    iintro %u' ⟨HI, HBs⟩
    rw [show i + (n + 1) = i + 1 + n by omega]
    isplitl [HI]; · iexact HI
    isplitl [HB]; · iexact HB
    iexact HBs

/-! ## Credits, and the elements of the pieces -/

theorem NW_eq (b : Fin 2) : (wSlot b).view.dmaCredit = NW := by unfold NW; rfl
theorem NB_eq (s : Fin 32) : (cSlot s).view.dmaCredit = NB := by unfold NB; rfl
theorem NB_rows (d : Dev nD) : (oRows d).view.dmaCredit = NB := by unfold NB; rfl

theorem wSlot_set (b : Fin 2) : (wSlot b).view.set = wbM.view.setOn (rW b).set :=
  ((wbM.view.slice (rW b)).set_reshape _).trans (wbM.view.set_slice _)
theorem cSlot_set (s : Fin 32) : (cSlot s).view.set = cmM.view.setOn (rC s).set :=
  ((cmM.view.slice (rC s)).set_reshape _).trans (cmM.view.set_slice _)
theorem oRows_set (d : Dev nD) : (oRows d).view.set = oM.view.setOn (rO d).set := oM.view.set_slice _

/-- What is owed, whatever the waits so far. -/
def owe (c : Dev nD) (O : CellTallies nD τ sig Unit) : sProp 𝕄 := iprop(∃ W, owes (c : Thread nD τ) O W)

section Moves

variable (K : Dev nD × CI → ℕ) (c : Dev nD)

/-! ## Entry -/

/-- Signalling hands over the rows this device keeps for the other one. -/
theorem tell_spec (s : Fin 32) (hs : 1 ≤ s.val) :
    iprop(records m K ∗ owe c (oweR c 1 + oweB c s.val) ∗ (dutyTok ER (barCell (up s c)) 0 (opp s) ∗ ∃ f, oPts c (up s c) f))
      ⊢ wpc (F := F) c (tell c s) (fun _ => iprop(owe c (oweR c 1 + oweB c (s.val + 1)) ∗ emp)) := by
  unfold tell wpc
  simp only [semSignalWord, Prog.lift, Prog.bind_op, Prog.bind_ret, Prog.pure_eq_ret, devTo_eq]
  iintro ⟨#HR, HO, Htok, Hrows⟩
  unfold owe
  icases HO with ⟨%W, HO⟩
  iapply (Rounds.wp_signal 𝒱₀ ER (plan m) (c : Thread nD τ) none (dst := (up s c : Thread nD τ)) (κ := K (up s c, .inl ()))
      (O₀ := oweR c 1 + oweB c s.val) (d := opp s) (by rw [duties_bar, mem_ahead]; show 1 ≤ (32 - s.val) % 32; have := s.isLt; omega)
      ((amount_bar m (up s c) 0 (opp s)).trans (by decide)) () (oweR c 1 + oweB c (s.val + 1))
      (by rw [oweB_succ, add_assoc]; rfl))
    $$ [HO Htok Hrows]
  · isplitr; · iapply (inv_at m K (up s c, .inl ())); iexact HR
    isplitl [HO]; · iexact HO
    isplitl [Htok]; · iexact Htok
    isplitl [Hrows]
    · rw [payload_bar]; unfold barPay; rw [up_opp, dn_up]; iexact Hrows
    · iapply (begun_at m K (up s c, .inl ())); iexact HR
  iintro HO
  rw [wp_ret]; imodintro
  isplitl [HO]; · iexists W; iexact HO
  iempintro

/-! ## The weight copies -/

theorem mayWait_copy (b : Fin 2) (i : Nat) :
    records m K ⊢ (MayWait (c : Thread nD τ) (.dma (copySem b)) () (oweR c i) : sProp 𝕄) := by
  have h : lvK (kindOf (.dma (copySem b))) < 2 := by rw [kindOf_copy]; exact Nat.two_pos
  have h' : (levels : sProp 𝕄) ⊢ MayWait (c : Thread nD τ) (.dma (copySem b)) () (oweR c i) :=
    mayWait_owing c (.dma (copySem b)) i h
  unfold records
  iintro ⟨-, -, H⟩
  iapply h'
  iexact H

/-- Before step `n`'s copy: its slot, half of the weights, its cell at the step's round. -/
def Free (n : ℕ) : sProp 𝕄 :=
  iprop((∃ f, wPts c (slotOf n) f) ∗ (wM.view.loc (c : Thread nD τ) ↦{half (slotOf n)} wAll m c)
    ∗ atPos ER (copyCell c (slotOf n)) (n / 2) ∅ 0 ∗ reached ER (copyCell c (slotOf n)) (n / 2))
/-- While it runs. -/
def Flight (n : ℕ) : sProp 𝕄 :=
  iprop(cred (tallyAt (copyCell c (slotOf n)) () NW) ∗ atPos ER (copyCell c (slotOf n)) (n / 2) ∅ 0
    ∗ (wM.view.loc (c : Thread nD τ) ↦[Finset.univ \ (wCols c (Fin.ofNat 32 n)).view.set]{half (slotOf n)} wAll m c))

theorem slotOf_add (n : ℕ) : slotOf (n + 2) = slotOf n := Fin.ext (by show (n + 2) % 2 = n % 2; omega)

theorem fetch_spec (s : Fin 32) :
    iprop(records m K ∗ Free m c s.val ∗ dutyTok ER (copyCell c (slotOf s.val)) (s.val / 2) 0)
      ⊢ wpc (F := F) c (fetch c s) (fun _ => Flight m c s.val) := by
  have hr : s.val / 2 < 16 := by have := s.isLt; omega
  unfold fetch wpc
  simp only [Prog.lift]
  unfold Free Flight
  rw [ofNat_val]
  iintro ⟨#HR, ⟨⟨%f, Hslot⟩, Hw, Hat, #Hre⟩, Htok⟩
  ihave Hw := (pointsTo_split_subset (Finset.subset_univ (wCols c s).view.set)).1 $$ Hw
  icases Hw with ⟨Hcols, Hw⟩
  unfold wPts
  iapply (Rounds.wp_copy_pointsTo 𝒱₀ ER (plan m) (c : Thread nD τ) none (src := wCols c s) (dst := wSlot (par s)) (κ := K (c, .inr (.inl (slotOf s.val))))
      (r := s.val / 2) (d := 0) (sem := .dma (copySem (slotOf s.val))) (q := half (slotOf s.val)) (fs := wAll m c) (fd := f)
      (by rw [duties_copy m c _ hr]; exact Finset.mem_singleton_self _) () NW (NW_eq _) (amount_copy m c _ _ _)
      (by
        rw [payload_copy, stepOf_eq, ofNat_val]
        unfold copyPay wPts vPts
        iintro ⟨Hslot, Hcols⟩
        isplitl [Hslot]
        · iexists ((wSlot (slotOf s.val)).view.write (Elt F) f ((wCols c s).view.read (Elt F) (wAll m c)) Finset.univ)
          isplitr
          · ipureintro; exact View.read_write_univ _ _
          · iexact Hslot
        · iexact Hcols))
    $$ [Hcols Hslot Htok]
  · isplitr; · iapply (inv_at m K (c, .inr (.inl (slotOf s.val)))); iexact HR
    isplitl [Hcols]; · iexact Hcols
    isplitl [Hslot]; · iexact Hslot
    isplitl [Htok]; · iexact Htok
    iexact Hre
  iintro Hc
  rw [wp_ret]; imodintro
  isplitl [Hc]; · iexact Hc
  isplitl [Hat]; · iexact Hat
  iexact Hw

/-- The rows at bf16, in their buffer. -/
def xbPts : sProp 𝕄 := iprop(xbM.view.loc (c : Thread nD τ) ↦{fullShare} xb m c)

theorem hz2 : (![0, 0] : Fin 2 → Nat) = fun _ => 0 := funext fun a => by fin_cases a <;> rfl

theorem grab_spec (s : Fin 32) (i : Nat) :
    iprop(records m K ∗ Flight m c s.val ∗ xbPts m c ∗ owe c (oweR c i))
      ⊢ wpc (F := F) c (grab c s) (fun xw => iprop(⌜xw = (xb m c, wt m c s)⌝ ∗ Free m c (s.val + 2) ∗ xbPts m c ∗ owe c (oweR c i))) := by
  have hr : s.val / 2 < 16 := by have := s.isLt; omega
  unfold grab wpc
  simp only [Prog.lift, Prog.bind_op, Prog.bind_ret, Prog.pure_eq_ret]
  unfold Flight owe
  rw [ofNat_val]
  iintro ⟨#HR, ⟨Hc, Hat, Hw⟩, Hx, ⟨%W, HO⟩⟩
  iapply (Rounds.wp_wait_rest_token 𝒱₀ ER (plan m) (c : Thread nD τ) none (κ := K (c, .inr (.inl (slotOf s.val))))
      (sm := .dma (copySem (slotOf s.val))) (k' := NW)
      (fun Kk => (wpE_waitDma2_eq 𝒱₀ (c : Thread nD τ) none Set.univ Kk).trans (by rw [NW_eq]; rfl)) (Set.mem_univ _) ()
      (O := oweR c i) (W := W) (R := s.val / 2) (m := 0) (T := ∅)
      (by rw [Nat.zero_add, expect_copy m c _ hr])) $$ [Hc HO Hat]
  · isplitr; · iapply (inv_at m K (c, .inr (.inl (slotOf s.val)))); iexact HR
    isplitl [Hc]; · iexact Hc
    isplitl [HO]; · iexact HO
    isplitr
    · iapply (mayWait_copy m K c (slotOf s.val) i); iexact HR
    iexact Hat
  iintro ⟨HO, Hat, #Hre, Hpay⟩
  ihave Hp := (Entails.of_eq ((rest_copy m c _ hr).trans (by rw [stepOf_eq, ofNat_val]))) $$ Hpay
  unfold copyPay
  icases Hp with ⟨⟨%f, %hf, Hslot⟩, Hcols⟩
  unfold xbPts wPts
  iapply (wp_load 𝒱₀ (c : Thread nD τ) none Set.univ (m := xbM) (Finset.subset_univ _)) $$ Hx; iintro Hx
  iapply (wp_load 𝒱₀ (c : Thread nD τ) none Set.univ (m := wbM) (S := (wSlot (slotOf s.val)).view.set)
    (by rw [wSlot_set]; exact subset_rfl)) $$ Hslot; iintro Hslot
  rw [wp_ret]; imodintro
  have hx : xbM.view.readAt (Elt F) rX.toLoadRect (xb m c) = xb m c := Memref.readAt_unit_zero (Elt F) cc0_scratch0 hz2 _ _
  isplitr
  · ipureintro
    rw [hx, ← hf]; rfl
  isplitl [Hslot Hcols Hw Hat]
  · unfold Free
    rw [slotOf_add, show (s.val + 2) / 2 = s.val / 2 + 1 by omega]
    isplitl [Hslot]; · iexists f; unfold wPts; iexact Hslot
    isplitl [Hcols Hw]
    · iapply (pointsTo_split_subset (Finset.subset_univ (wCols c s).view.set)).2
      unfold vPts
      isplitl [Hcols]; · iexact Hcols
      iexact Hw
    isplitl [Hat]; · iexact Hat
    iexact Hre
  isplitl [Hx]; · iexact Hx
  iexists _; iexact HO

end Moves

end Cert.Gather

end
-- ==== Proof.Ships.lean ====
/-
The rest of the moves: keeping step 0's block, sending a block off, waiting for a block and for a send, the prologue —
and the steps, the moves one after another.
-/
module

public import proofs.«01_k».proof.Proof.Moves
public import Idealize.ShloMosaic.Lib.Pipeline.Value

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## A device's own rows -/

/-- Rows `e` of the output staged on `d`, holding the block `e` computed for `d`. -/
def rowsDone (d e : Dev nD) : sProp 𝕄 :=
  iprop(∃ f, ⌜(oRows e).view.read (Elt F) f = blkAt m e (off d e)⌝ ∗ oPts d e f)

theorem recvPay_eq (s : Fin 32) : recvPay (F := F) m c s = rowsDone m c (dn s c) := by
  unfold recvPay rowsDone; rw [off_dn]

theorem keep_spec : iprop(∃ f, oPts c c f) ⊢ wpc (F := F) c (keep c (blkAt m c 0)) (fun _ => rowsDone m c c) := by
  unfold keep wpc
  simp only [Prog.lift, Prog.bind_op, Prog.bind_ret, Prog.pure_eq_ret]
  iintro ⟨%f, Ho⟩
  unfold oPts
  iapply (wp_load 𝒱₀ (c : Thread nD τ) none Set.univ (m := oM) (S := (oRows c).view.set) (f := f)
    (by rw [oRows_set])) $$ Ho; iintro Ho
  iapply (wp_store 𝒱₀ (c : Thread nD τ) none Set.univ (m := oM) (r := rO c) (Mk := Finset.univ) (S := (oRows c).view.set) (f := f)
    subset_rfl) $$ Ho; iintro Ho
  rw [wp_ret]; imodintro
  unfold rowsDone oPts
  iexists ((oM.access (rO c)).write (Elt F) f (blkAt m c 0) Finset.univ)
  isplitr
  · ipureintro
    have h0 : off c c = 0 := Fin.ext (by have := c.isLt; change c.val < 32 at this; show (c.val + (32 - c.val)) % 32 = 0; omega)
    rw [h0]; exact View.read_write_univ (v := oM.access (rO c)) f _
  iexact Ho

/-! ## Sending a block off -/

/-- What sending step `s`'s block takes besides the debt: its slot, the rows on the device it goes to, the duties of the
    two cells. -/
def ShipIn (s : Fin 32) : sProp 𝕄 :=
  iprop((∃ f, cPts c s f) ∗ (∃ f, oPts (up s c) c f) ∗ dutyTok ER (sendCell c s) 0 0 ∗ dutyTok ER (recvCell (up s c) s) 0 0)

/-- The remote copy alone, addressed to a device known to be the one `s` places after. -/
theorem wp_ship (s : Fin 32) (hs : 1 ≤ s.val) (n : Dev nD) (hn : n = up s c) {hsc : (oRows c : Memref sig (Dev.tc n : Thread nD τ).2.kind .vmem S128x256 .f32).view.ref.isScScratch = false}
    {hsrc : (cSlot s).view.WordExact} {hdst : (oRows c).view.WordExact}
    {hsem : DmaTarget.Typed .vmem (.dma (recvSem s)) (.remote (Dev.tc n : Thread nD τ) (oRows c) (.dma (sendSem s)) hsc)}
    {α : Type} {Q : α → sProp 𝕄} {k : PUnit → P F α} (fc : Buf (Elt F) ((cSlot s).view.loc (c : Thread nD τ)))
    (hfc : (cSlot s).view.read (Elt F) fc = blkAt m c s) (fo : Buf (Elt F) ((oRows c).view.loc (up s c : Thread nD τ))) (W : Waits sig Unit) :
    iprop(records m K ∗ cPts c s fc ∗ oPts (up s c) c fo ∗ owes (c : Thread nD τ) (oweR c s.val) W
        ∗ dutyTok ER (sendCell c s) 0 0 ∗ dutyTok ER (recvCell (up s c) s) 0 0)
      ⊢ iprop(((cred (tallyAt (sendCell c s) () NB) ∗ owes (c : Thread nD τ) (oweR c (s.val + 1)) W) -∗ wpc c (k ⟨⟩) Q)
          -∗ wpc c (.op (.enqueueDma (cSlot s) (.remote (Dev.tc n : Thread nD τ) (oRows c) (.dma (sendSem s)) hsc) (.dma (recvSem s)) hsrc hdst hsem) k) Q) := by
  subst hn
  unfold cPts oPts wpc
  iintro ⟨#HR, Hc, Ho, HO, Ht1, Ht2⟩ Hk
  iapply (Rounds.wp_send_pointsTo 𝒱₀ ER (plan m) (c : Thread nD τ) none (κ₁ := K (c, .inr (.inr (.inl s)))) (κ₂ := K (up s c, .inr (.inr (.inr s))))
    (sS := .dma (sendSem s)) (sem := .dma (recvSem s)) (r₁ := 0) (r₂ := 0) (d₁ := 0) (d₂ := 0) (fs := fc) (fd := fo)
    (by rw [duties_send m c hs]; exact Finset.mem_singleton_self _) (by rw [duties_recv m _ hs]; exact Finset.mem_singleton_self _)
    () () NB (NB_rows c) (amount_send m c s 0 0) (amount_recv m (up s c) s 0 0) (O₀ := oweR c s.val) (oweR c (s.val + 1)) (oweR_succ c s) (W := W)
    (by rw [payload_send]; unfold sendPay cPts; iintro H; iexists fc; iexact H)
    (by
      rw [payload_recv]; unfold recvPay oPts; rw [dn_up]
      iintro H
      iexists ((oRows c).view.write (Elt F) fo ((cSlot s).view.read (Elt F) fc) Finset.univ)
      isplitr
      · ipureintro; rw [hfc]; exact View.read_write_univ _ _
      · iexact H)) $$ [Hc Ho HO Ht1 Ht2]
  · isplitr; · iapply (inv_at m K (c, .inr (.inr (.inl s)))); iexact HR
    isplitr; · iapply (inv_at m K (up s c, .inr (.inr (.inr s)))); iexact HR
    isplitl [Hc]; · iexact Hc
    isplitl [Ho]; · iexact Ho
    isplitl [HO]; · iexact HO
    isplitl [Ht1]; · iexact Ht1
    isplitr; · iapply (begun_at m K (c, .inr (.inr (.inl s)))); iexact HR
    isplitl [Ht2]; · iexact Ht2
    iapply (begun_at m K (up s c, .inr (.inr (.inr s)))); iexact HR
  iexact Hk

theorem ship_spec (s : Fin 32) (hs : 1 ≤ s.val) :
    iprop(records m K ∗ owe c (oweR c s.val) ∗ ShipIn c s)
      ⊢ wpc (F := F) c (ship c s (blkAt m c s)) (fun _ => iprop(owe c (oweR c (s.val + 1)) ∗ cred (tallyAt (sendCell c s) () NB))) := by
  unfold ship wpc
  simp only [Prog.lift, Prog.bind_op, Prog.bind_ret, Prog.pure_eq_ret]
  unfold ShipIn owe
  iintro ⟨#HR, ⟨%W, HO⟩, ⟨%f, Hc⟩, ⟨%fo, Ho⟩, Ht1, Ht2⟩
  unfold cPts
  iapply (wp_load 𝒱₀ (c : Thread nD τ) none Set.univ (m := cmM) (S := (cSlot s).view.set) (f := f)
    (by rw [cSlot_set])) $$ Hc; iintro Hc
  iapply (wp_store 𝒱₀ (c : Thread nD τ) none Set.univ (m := cmM) (r := rC s) (Mk := Finset.univ) (S := (cSlot s).view.set) (f := f)
    (by rw [cSlot_set]; exact subset_of_eq (cmM.view.set_slice _))) $$ Hc; iintro Hc
  have hfc : (cSlot s).view.read (Elt F) ((cmM.access (rC s)).write (Elt F) f (inslot (blkAt m c s)) Finset.univ) = blkAt m c s := by
    have h1 : (cmM.access (rC s)).read (Elt F) ((cmM.access (rC s)).write (Elt F) f (inslot (blkAt m c s)) Finset.univ)
        = inslot (blkAt m c s) := View.read_write_univ (v := cmM.access (rC s)) f _
    have h2 : shapeCast S128x256 (inslot (blkAt m c s)) shapeCasts_S1x128x256_S128x256 = blkAt m c s := shapeCast_shapeCast _ _ _
    exact (congrArg (fun v => shapeCast S128x256 v shapeCasts_S1x128x256_S128x256) h1).trans h2
  iapply (wp_ship m K c s hs _ (devTo_eq s c) _ hfc fo W) $$ [Hc Ho HO Ht1 Ht2]
  · isplitr; · iexact HR
    isplitl [Hc]; · unfold cPts; iexact Hc
    isplitl [Ho]; · iexact Ho
    isplitl [HO]; · iexact HO
    isplitl [Ht1]; · iexact Ht1
    iexact Ht2
  iintro ⟨Hcr, HO⟩
  unfold wpc
  rw [wp_ret]; imodintro
  isplitl [HO]; · iexists W; iexact HO
  iexact Hcr

/-! ## Waiting -/

theorem arrive_spec (s : Fin 32) (hs : 1 ≤ s.val) :
    iprop(records m K ∗ owe c 0 ∗ (cred (tallyAt (recvCell c s) () NB) ∗ atPos ER (recvCell c s) 0 ∅ 0))
      ⊢ wpc (F := F) c (arrive c s) (fun _ => iprop(owe c 0 ∗ (rowsDone m c (dn s c) ∗ semVal (recvCell c s) 0))) := by
  unfold arrive wpc
  simp only [Prog.lift]
  unfold owe
  iintro ⟨#HR, ⟨%W, HO⟩, Hc, Hat⟩
  ihave #HI := (inv_at m K (c, .inr (.inr (.inr s)))) $$ HR
  iapply (Rounds.wp_wait_rest_token 𝒱₀ ER (plan m) (c : Thread nD τ) none (κ := K (c, .inr (.inr (.inr s))))
      (sm := .dma (recvSem s)) (k' := NB)
      (fun Kk => (wpE_waitDma2_eq 𝒱₀ (c : Thread nD τ) none Set.univ Kk).trans (by rw [← NB_rows c]; rfl)) (Set.mem_univ _) ()
      (O := 0) (W := W) (R := 0) (m := 0) (T := ∅)
      (by rw [Nat.zero_add, expect_recv m c hs])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_recv m c hs).trans (recvPay_eq m c s))) $$ Hpay
  rw [wp_ret]
  imod (Rounds.cell_close ER (plan m) (Set.mem_univ (K (c, .inr (.inr (.inr s))))) (fun h => h) (R := 0 + 1) (later_recv m c s)) $$ [Hat] with Hz
  · isplitr; · iexact HI
    iexact Hat
  imodintro
  isplitl [HO]; · iexists _; iexact HO
  isplitl [Hp]; · iexact Hp
  iexact Hz

theorem depart_spec (s : Fin 32) (hs : 1 ≤ s.val) :
    iprop(records m K ∗ owe c 0 ∗ (cred (tallyAt (sendCell c s) () NB) ∗ atPos ER (sendCell c s) 0 ∅ 0))
      ⊢ wpc (F := F) c (depart c s) (fun _ => iprop(owe c 0 ∗ ((∃ f, cPts c s f) ∗ semVal (sendCell c s) 0))) := by
  unfold depart wpc
  simp only [Prog.lift]
  unfold owe
  iintro ⟨#HR, ⟨%W, HO⟩, Hc, Hat⟩
  ihave #HI := (inv_at m K (c, .inr (.inr (.inl s)))) $$ HR
  iapply (Rounds.wp_wait_rest_token 𝒱₀ ER (plan m) (c : Thread nD τ) none (κ := K (c, .inr (.inr (.inl s))))
      (sm := .dma (sendSem s)) (k' := NB)
      (fun Kk => (wpE_waitDma2_eq 𝒱₀ (c : Thread nD τ) none Set.univ Kk).trans (by rw [NB_eq s])) (Set.mem_univ _) ()
      (O := 0) (W := W) (R := 0) (m := 0) (T := ∅)
      (by rw [Nat.zero_add, expect_send m c hs])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c hs)) $$ Hpay
  rw [wp_ret]
  imod (Rounds.cell_close ER (plan m) (Set.mem_univ (K (c, .inr (.inr (.inl s))))) (fun h => h) (R := 0 + 1) (later_send m c s)) $$ [Hat] with Hz
  · isplitr; · iexact HI
    iexact Hat
  imodintro
  isplitl [HO]; · iexists _; iexact HO
  isplitl [Hp]; · unfold sendPay; iexact Hp
  iexact Hz

/-! ## The prologue -/

theorem one_index (i j : S1.Idx) : i = j := funext fun a => by
  fin_cases a; exact Subsingleton.elim (α := Fin 1) _ _

abbrev xPts : sProp 𝕄 := iprop(xM.view.loc (c : Thread nD τ) ↦{fullShare} xs m c)
abbrev saPts : sProp 𝕄 := iprop(saM.view.loc (c : Thread nD τ) ↦{fullShare} sa m c)
abbrev sbPts : sProp 𝕄 := iprop(sbM.view.loc (c : Thread nD τ) ↦{fullShare} sb m c)

theorem prologue_spec :
    iprop(xPts m c ∗ saPts m c ∗ sbPts m c ∗ ∃ f, xbM.view.loc (c : Thread nD τ) ↦{fullShare} f)
      ⊢ wpc (F := F) c (prologue c) (fun v => iprop(⌜v = sc m c⌝ ∗ xPts m c ∗ saPts m c ∗ sbPts m c ∗ xbPts m c)) := by
  unfold prologue wpc
  simp only [smemLoad, Prog.lift, Prog.bind_op, Prog.bind_ret, Prog.pure_eq_ret, smemLoadElt]
  iintro ⟨Hx, Ha, Hb, ⟨%f, Hf⟩⟩
  iapply (wp_load 𝒱₀ (c : Thread nD τ) none Set.univ (m := saM) (Finset.subset_univ _)) $$ Ha; iintro Ha
  iapply (wp_load 𝒱₀ (c : Thread nD τ) none Set.univ (m := sbM) (Finset.subset_univ _)) $$ Hb; iintro Hb
  iapply (wp_load 𝒱₀ (c : Thread nD τ) none Set.univ (m := xM) (Finset.subset_univ _)) $$ Hx; iintro Hx
  iapply (wp_load 𝒱₀ (c : Thread nD τ) none Set.univ (m := xbM) (Finset.subset_univ _)) $$ Hf; iintro Hf
  iapply (wp_store 𝒱₀ (c : Thread nD τ) none Set.univ (m := xbM) (r := rX) (Mk := Finset.univ) (Finset.subset_univ _)) $$ Hf; iintro Hf
  have hx : xM.view.readAt (Elt F) rX.toLoadRect (xs m c) = xs m c := Memref.readAt_unit_zero (Elt F) cc0_stg0_0 hz2 _ _
  have hw : ∀ w, (xbM.access rX).write (Elt F) f w Finset.univ = w := fun w => Memref.write_access_unit_zero_univ (Elt F) cc0_scratch0 hz2 _ f w
  rw [wp_ret, hx, hw]; imodintro
  isplitr
  · ipureintro
    unfold sc
    exact congrArg₂ k0_pay1 (congrArg (sa m c) (one_index _ _)) (congrArg (sb m c) (one_index _ _))
  isplitl [Hx]; · iexact Hx
  isplitl [Ha]; · iexact Ha
  isplitl [Hb]; · iexact Hb
  unfold xbPts xb
  iexact Hf

/-! ## The steps -/

/-- Between steps: the coming step's copy runs, the other slot is free, the rows are in place, the later arrivals owed. -/
def Run (n : ℕ) : sProp 𝕄 := iprop(Flight m c n ∗ Free m c (n + 1) ∗ xbPts m c ∗ owe c (oweR c n))

theorem step_spec (s : Fin 32) (hs : 1 ≤ s.val) :
    iprop(records m K ∗ (Flight m c s.val ∗ xbPts m c ∗ owe c (oweR c s.val)) ∗ ShipIn c s)
      ⊢ wpc (F := F) c (step c (sc m c) s) (fun _ => iprop((Free m c (s.val + 2) ∗ xbPts m c ∗ owe c (oweR c (s.val + 1)))
          ∗ cred (tallyAt (sendCell c s) () NB))) := by
  unfold step wpc
  rw [wp_bind]
  iintro ⟨#HR, ⟨Hfl, Hx, HO⟩, Hs⟩
  ihave Hw := (grab_spec m K c s s.val) $$ [Hfl Hx HO]
  · isplitr; · iexact HR
    isplitl [Hfl]; · iexact Hfl
    isplitl [Hx]; · iexact Hx
    iexact HO
  unfold wpc
  iapply (wp_wand _ _ _) $$ Hw
  iintro %xw ⟨%hxw, Hfr, Hx, HO⟩
  subst hxw
  ihave Hw := (ship_spec m K c s hs) $$ [HO Hs]
  · isplitr; · iexact HR
    isplitl [HO]; · iexact HO
    iexact Hs
  unfold wpc
  iapply (wp_wand _ _ _) $$ Hw
  iintro %u ⟨HO, Hc⟩
  isplitl [Hfr Hx HO]
  · isplitl [Hfr]; · iexact Hfr
    isplitl [Hx]; · iexact Hx
    iexact HO
  iexact Hc

/-- The duty of step `n`'s copy. -/
def copyTok (n : ℕ) : sProp 𝕄 := dutyTok ER (copyCell c (slotOf n)) (n / 2) 0

theorem fetchStep_spec (s : Fin 32) (hs : 1 ≤ s.val) (hs' : s.val < 31) :
    iprop(records m K ∗ Run m c s.val ∗ (copyTok c (s.val + 1) ∗ ShipIn c s))
      ⊢ wpc (F := F) c (fetchStep c (sc m c) s) (fun _ => iprop(Run m c (s.val + 1) ∗ cred (tallyAt (sendCell c s) () NB))) := by
  have hv : (Fin.ofNat 32 (s.val + 1)).val = s.val + 1 := Nat.mod_eq_of_lt (by omega)
  have hf := fetch_spec m K c (Fin.ofNat 32 (s.val + 1))
  rw [hv] at hf
  unfold fetchStep wpc
  refine BIBase.Entails.trans ?_ (Entails.of_eq (wp_bind _ _ _ _ _ _).symm)
  unfold Run copyTok
  iintro ⟨#HR, ⟨Hfl, Hfr, Hx, HO⟩, Htok, Hs⟩
  ihave Hw := hf $$ [Hfr Htok]
  · isplitr; · iexact HR
    isplitl [Hfr]; · iexact Hfr
    iexact Htok
  unfold wpc
  iapply (wp_wand _ _ _) $$ Hw
  iintro %u Hfl'
  ihave Hw := (step_spec m K c s hs) $$ [Hfl Hx HO Hs]
  · isplitr; · iexact HR
    isplitl [Hfl Hx HO]
    · isplitl [Hfl]; · iexact Hfl
      isplitl [Hx]; · iexact Hx
      iexact HO
    iexact Hs
  unfold wpc
  iapply (wp_wand _ _ _) $$ Hw
  iintro %u' ⟨⟨Hfr, Hx, HO⟩, Hc⟩
  isplitl [Hfl' Hfr Hx HO]
  · isplitl [Hfl']; · iexact Hfl'
    isplitl [Hfr]; · iexact Hfr
    isplitl [Hx]; · iexact Hx
    iexact HO
  iexact Hc

theorem first_spec :
    iprop(records m K ∗ Flight m c 0 ∗ Free m c 1 ∗ xbPts m c ∗ owe c (oweR c 1) ∗ copyTok c 1 ∗ ∃ f, oPts c c f)
      ⊢ wpc (F := F) c (first c (sc m c)) (fun _ => iprop(Run m c 1 ∗ rowsDone m c c)) := by
  unfold first wpc
  rw [wp_bind]
  unfold Run copyTok
  iintro ⟨#HR, Hfl, Hfr, Hx, HO, Htok, Hrows⟩
  ihave Hw := (fetch_spec m K c 1) $$ [Hfr Htok]
  · isplitr; · iexact HR
    isplitl [Hfr]; · iexact Hfr
    iexact Htok
  unfold wpc
  iapply (wp_wand _ _ _) $$ Hw
  iintro %u Hfl'
  rw [wp_bind]
  ihave Hw := (grab_spec m K c 0 1) $$ [Hfl Hx HO]
  · isplitr; · iexact HR
    isplitl [Hfl]; · iexact Hfl
    isplitl [Hx]; · iexact Hx
    iexact HO
  unfold wpc
  iapply (wp_wand _ _ _) $$ Hw
  iintro %xw ⟨%hxw, Hfr, Hx, HO⟩
  subst hxw
  ihave Hw := (keep_spec m c) $$ Hrows
  unfold wpc
  iapply (wp_wand _ _ _) $$ Hw
  iintro %u' Hdone
  isplitl [Hfl' Hfr Hx HO]
  · isplitl [Hfl']; · iexact Hfl'
    isplitl [Hfr]; · iexact Hfr
    isplitl [Hx]; · iexact Hx
    iexact HO
  iexact Hdone

end Cert.Gather

end
-- ==== Proof.Pieces.lean ====
/-
Cutting the buffers a device holds whole into the pieces its steps take — the output rows by the device that fills
them, the slots by the step that uses them — and putting them back together. The output's last state is written here
as one table: row block `e` is the block device `e` computed for this one.
-/
module

public import proofs.«01_k».proof.Proof.Ships
public import Idealize.ShloMosaic.Lib.Ring.FamCut
public import Idealize.ShloMosaic.Lib.Memref
public import Idealize.ShloMosaic.Lib.Exec.Geometry
public import Idealize.ShloMosaic.Lib.ValueIdxCore

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

/-! ## The pieces do not meet, and the rows are everything -/

theorem rO_off (d : Dev nD) : (rO d).off = ![128 * d.val, 0] := k0_off3_eq d

theorem rO_apart (d e : Dev nD) (h : d ≠ e) : Disjoint (rO d).set (rO e).set := by
  have hne : d.val ≠ e.val := fun h' => h (Fin.ext h')
  refine LoadRect.disjoint_of_separated (rO d).toLoadRect (rO e).toLoadRect (0 : Fin 2) ?_
  have h1 : (rO d).toLoadRect.off (0 : Fin 2) = 128 * d.val := congrFun (rO_off d) 0
  have h2 : (rO e).toLoadRect.off (0 : Fin 2) = 128 * e.val := congrFun (rO_off e) 0
  rw [h1, h2]
  show (128 = 0 ∨ 128 * d.val + 1 * (128 - 1) < 128 * e.val) ∨ (128 = 0 ∨ 128 * e.val + 1 * (128 - 1) < 128 * d.val)
  omega

theorem rC_apart (s t : Fin 32) (h : s ≠ t) : Disjoint (rC s).set (rC t).set := by
  have hne : s.val ≠ t.val := fun h' => h (Fin.ext h')
  refine LoadRect.disjoint_of_separated (rC s).toLoadRect (rC t).toLoadRect (0 : Fin 3) ?_
  show (1 = 0 ∨ s.val + 1 * (1 - 1) < t.val) ∨ (1 = 0 ∨ t.val + 1 * (1 - 1) < s.val)
  omega

theorem rW_apart (s t : Fin 2) (h : s ≠ t) : Disjoint (rW s).set (rW t).set := by
  have hne : s.val ≠ t.val := fun h' => h (Fin.ext h')
  refine LoadRect.disjoint_of_separated (rW s).toLoadRect (rW t).toLoadRect (0 : Fin 3) ?_
  show (1 = 0 ∨ s.val + 1 * (1 - 1) < t.val) ∨ (1 = 0 ∨ t.val + 1 * (1 - 1) < s.val)
  omega

theorem oRows_apart (d e : Dev nD) (h : d ≠ e) : Disjoint (oRows d).view.set (oRows e).view.set := by
  rw [oRows_set, oRows_set]; exact View.disjoint_setOn _ (rO_apart d e h)
theorem cSlot_apart (s t : Fin 32) (h : s ≠ t) : Disjoint (cSlot s).view.set (cSlot t).view.set := by
  rw [cSlot_set, cSlot_set]; exact View.disjoint_setOn _ (rC_apart s t h)
theorem wSlot_apart (s t : Fin 2) (h : s ≠ t) : Disjoint (wSlot s).view.set (wSlot t).view.set := by
  rw [wSlot_set, wSlot_set]; exact View.disjoint_setOn _ (rW_apart s t h)

/-- The device whose block an output element lies in, and the element's place in that block. -/
def rowDev (i : S4096x256.Idx) : Dev nD := ⟨(i 0).val / 128, by have h : (i 0).val < 4096 := (i 0).isLt; show _ < 32; omega⟩
def inRow (i : S4096x256.Idx) : S128x256.Idx :=
  ix2 (⟨(i 0).val % 128, Nat.mod_lt _ (by decide)⟩ : Fin 128) (⟨(i 1).val, (i 1).isLt⟩ : Fin 256)

theorem rO_emb (e : Dev nD) (j : S128x256.Idx) : (((rO e).emb j) 0).val = 128 * e.val + (j 0).val ∧ (((rO e).emb j) 1).val = (j 1).val := by
  have h0 := Rect.emb_apply (rO e) j (0 : Fin 2)
  have h1 := Rect.emb_apply (rO e) j (1 : Fin 2)
  rw [rO_off] at h0 h1
  constructor
  · refine h0.trans ?_; show 128 * e.val + 1 * (j 0).val = _; omega
  · refine h1.trans ?_; show 0 + 1 * (j 1).val = _; omega

theorem rowDev_emb (e : Dev nD) (j : S128x256.Idx) : rowDev ((rO e).emb j) = e := by
  apply Fin.ext
  have h := (rO_emb e j).1
  have hj : (j 0).val < 128 := (j 0).isLt
  show (((rO e).emb j) 0).val / 128 = e.val
  rw [h]; omega
theorem inRow_emb (e : Dev nD) (j : S128x256.Idx) : inRow ((rO e).emb j) = j := by
  have h := (rO_emb e j)
  have hj : (j 0).val < 128 := (j 0).isLt
  funext a; apply Fin.ext
  fin_cases a
  · show (((rO e).emb j) 0).val % 128 = (j 0).val
    rw [h.1]; omega
  · show (((rO e).emb j) 1).val = (j 1).val
    exact h.2
theorem emb_inRow (i : S4096x256.Idx) : (rO (rowDev i)).emb (inRow i) = i := by
  have h := rO_emb (rowDev i) (inRow i)
  funext a; apply Fin.ext
  fin_cases a
  · show (((rO (rowDev i)).emb (inRow i)) 0).val = (i 0).val
    refine h.1.trans ?_
    show 128 * ((i 0).val / 128) + (i 0).val % 128 = (i 0).val
    omega
  · show (((rO (rowDev i)).emb (inRow i)) 1).val = (i 1).val
    exact h.2

theorem rO_cover : (Finset.univ : Finset (Dev nD)).biUnion (fun e => (rO e).set) = Finset.univ := by
  refine Finset.eq_univ_of_forall fun i => Finset.mem_biUnion.mpr ⟨rowDev i, Finset.mem_univ _, ?_⟩
  rw [← Rect.map_emb_univ]
  exact Finset.mem_map.mpr ⟨inRow i, Finset.mem_univ _, emb_inRow i⟩

/-! ## The output -/

/-- What the output columns of device `c` end with. -/
def outAt : (cc0_stg3_0 : Ref sig .tc).ty.Contents (Elt F) := fun i => blkAt m (rowDev i) (off c (rowDev i)) (inRow i)

theorem outAt_emb (e : Dev nD) (j : S128x256.Idx) : outAt m c ((rO e).emb j) = blkAt m e (off c e) j := by
  unfold outAt; rw [rowDev_emb, inRow_emb]

theorem out_join : (bigSep Finset.univ fun e : Dev nD => rowsDone m c e)
    ⊢ (oM.view.loc (c : Thread nD τ) ↦{fullShare} outAt m c : sProp 𝕄) := by
  haveI : ∀ e, Nonempty (Elt F e) := fun e => inferInstance
  have h := owns_of_rects (Ix := Unit) (Name := ℕ) (U := UU) (Lvl := ℕ) (Val := Elt F) (c : Thread nD τ) oM fullShare
    rO (fun _ _ => rfl) rO_apart rO_cover (outAt m c)
  have h1 : (bigSep Finset.univ fun e : Dev nD => rowsDone m c e)
      ⊢ (bigSep Finset.univ fun e : Dev nD => owns (c : Thread nD τ) (oM.slice (rO e) (fun _ => rfl)) fullShare (fun j => outAt m c ((rO e).emb j)) : sProp 𝕄) :=
    bigSep_mono fun e _ => by
      show rowsDone m c e ⊢ (owns (c : Thread nD τ) (oM.slice (rO e) (fun _ => rfl)) fullShare (fun j => outAt m c ((rO e).emb j)) : sProp 𝕄)
      rw [show (fun j => outAt m c ((rO e).emb j)) = blkAt m e (off c e) from funext fun j => outAt_emb m c e j]
      exact BI.Entails.refl _
  refine (h1.trans h).trans ?_
  unfold owns
  iintro ⟨%f, %hf, H⟩
  simp only [Memref.view_whole, View.read_whole, View.set_whole] at hf ⊢
  rw [← hf]
  iexact H

/-- The elements of each piece, as elements of the buffer on device `c`. -/
def oSet (e : Dev nD) : Finset (Idx ((c : Thread nD τ).loc cc0_stg3_0)) := (oRows e).view.set
def cSet (s : Fin 32) : Finset (Idx ((c : Thread nD τ).loc cc0_scratch2)) := (cSlot s).view.set
def wSet (b : Fin 2) : Finset (Idx ((c : Thread nD τ).loc cc0_scratch1)) := (wSlot b).view.set

theorem oPts_eq (e : Dev nD) (f) : oPts (F := F) c e f = ((c : Thread nD τ).loc cc0_stg3_0 ↦[oSet c e]{fullShare} f) := rfl
theorem cPts_eq (s : Fin 32) (f) : cPts (F := F) c s f = ((c : Thread nD τ).loc cc0_scratch2 ↦[cSet c s]{fullShare} f) := rfl
theorem wPts_eq (b : Fin 2) (f) : wPts (F := F) c b f = ((c : Thread nD τ).loc cc0_scratch1 ↦[wSet c b]{fullShare} f) := rfl

theorem oSet_apart (d e : Dev nD) (h : d ≠ e) : Disjoint (oSet c d) (oSet c e) := oRows_apart d e h
theorem cSet_apart (s t : Fin 32) (h : s ≠ t) : Disjoint (cSet c s) (cSet c t) := cSlot_apart s t h
theorem wSet_apart (s t : Fin 2) (h : s ≠ t) : Disjoint (wSet c s) (wSet c t) := wSlot_apart s t h

theorem out_split : (iprop(∃ f, (c : Thread nD τ).loc cc0_stg3_0 ↦{fullShare} f) : sProp 𝕄)
    ⊢ bigSep Finset.univ fun e : Dev nD => iprop(∃ f, oPts c e f) := by
  simp only [oPts_eq]
  exact (Ring.fam_split_ex (ℓ := (c : Thread nD τ).loc cc0_stg3_0) (oSet c) (oSet_apart c)).trans sep_elim_left

/-! ## The slots -/

/-- What no slot covers. -/
def cRest : sProp 𝕄 := iprop(∃ f, (c : Thread nD τ).loc cc0_scratch2 ↦[Ring.restOf (cSet c)]{fullShare} f)
def wRest : sProp 𝕄 := iprop(∃ f, (c : Thread nD τ).loc cc0_scratch1 ↦[Ring.restOf (wSet c)]{fullShare} f)

theorem c_split : (iprop(∃ f, (c : Thread nD τ).loc cc0_scratch2 ↦{fullShare} f) : sProp 𝕄)
    ⊢ iprop((bigSep Finset.univ fun s : Fin 32 => iprop(∃ f, cPts c s f)) ∗ cRest c) := by
  simp only [cPts_eq]; unfold cRest
  exact Ring.fam_split_ex (ℓ := (c : Thread nD τ).loc cc0_scratch2) (cSet c) (cSet_apart c)
theorem c_join : iprop((bigSep Finset.univ fun s : Fin 32 => iprop(∃ f, cPts c s f)) ∗ cRest c)
    ⊢ (iprop(∃ f, (c : Thread nD τ).loc cc0_scratch2 ↦{fullShare} f) : sProp 𝕄) := by
  simp only [cPts_eq]; unfold cRest
  exact Ring.fam_join (ℓ := (c : Thread nD τ).loc cc0_scratch2) (cSet c) (cSet_apart c) (fun _ => Classical.arbitrary _)
theorem w_split : (iprop(∃ f, (c : Thread nD τ).loc cc0_scratch1 ↦{fullShare} f) : sProp 𝕄)
    ⊢ iprop((bigSep Finset.univ fun b : Fin 2 => iprop(∃ f, wPts c b f)) ∗ wRest c) := by
  simp only [wPts_eq]; unfold wRest
  exact Ring.fam_split_ex (ℓ := (c : Thread nD τ).loc cc0_scratch1) (wSet c) (wSet_apart c)
theorem w_join : iprop((bigSep Finset.univ fun b : Fin 2 => iprop(∃ f, wPts c b f)) ∗ wRest c)
    ⊢ (iprop(∃ f, (c : Thread nD τ).loc cc0_scratch1 ↦{fullShare} f) : sProp 𝕄) := by
  simp only [wPts_eq]; unfold wRest
  exact Ring.fam_join (ℓ := (c : Thread nD τ).loc cc0_scratch1) (wSet c) (wSet_apart c) (fun _ => Classical.arbitrary _)

/-! ## Families over the steps -/

theorem ahead_eq : ahead 1 = span 1 31 := by
  ext s; rw [mem_ahead, mem_span]; have := s.isLt; omega
theorem univ_eq : (Finset.univ : Finset (Fin 32)) = insert 0 (span 1 31) := by
  ext s; rw [Finset.mem_insert, mem_span, Fin.ext_iff]; have := s.isLt
  exact ⟨fun _ => by show s.val = 0 ∨ _; omega, fun _ => Finset.mem_univ _⟩
theorem span_last : span 1 31 = insert 31 (span 1 30) := by
  ext s; rw [Finset.mem_insert, mem_span, mem_span, Fin.ext_iff]
  show _ ↔ s.val = 31 ∨ _; omega

theorem cut_first (Φ : Fin 32 → sProp 𝕄) : bigSep Finset.univ Φ = iprop(Φ 0 ∗ bigSep (span 1 31) Φ) := by
  rw [univ_eq]; exact bigSep_cons (by rw [mem_span]; decide) Φ
theorem cut_last (Φ : Fin 32 → sProp 𝕄) : bigSep (span 1 31) Φ = iprop(Φ 31 ∗ bigSep (span 1 30) Φ) := by
  rw [span_last]; exact bigSep_cons (by rw [mem_span]; decide) Φ

/-- A family over the steps, taken one step later: the first two apart. -/
theorem cut_next (Φ : ℕ → sProp 𝕄) :
    (bigSep Finset.univ fun s : Fin 32 => Φ s.val) = iprop(Φ 0 ∗ Φ 1 ∗ bigSep (span 1 30) fun s => Φ (s.val + 1)) := by
  have e := bigSep_univ_equiv (turn 1) (fun s : Dev nD => Φ s.val)
  have e' : (bigSep Finset.univ fun s : Fin 32 => Φ s.val) = bigSep Finset.univ fun s : Fin 32 => Φ (up 1 s).val := e
  rw [e', cut_first, cut_last]
  have h : bigSep (span 1 30) (fun s : Fin 32 => Φ (up 1 s).val) = bigSep (span 1 30) fun s => Φ (s.val + 1) :=
    bigSep_congr fun s hs => by
      have := (mem_span.mp hs).2
      rw [show (up 1 s).val = s.val + 1 from Nat.mod_eq_of_lt (by show s.val + 1 < 32; omega)]
  rw [h]
  have h0 : (up 1 (0 : Fin 32)).val = 1 := by decide
  have h1 : (up 1 (31 : Fin 32)).val = 0 := by decide
  rw [h0, h1]
  refine BI.equiv_iff.mp ⟨?_, ?_⟩
  · show iprop(Φ 1 ∗ Φ 0 ∗ bigSep (span 1 30) fun s => Φ (s.val + 1)) ⊢ _
    iintro ⟨H1, H0, H⟩
    isplitl [H0]; · iexact H0
    isplitl [H1]; · iexact H1
    iexact H
  · show iprop(Φ 0 ∗ Φ 1 ∗ bigSep (span 1 30) fun s => Φ (s.val + 1)) ⊢ _
    iintro ⟨H0, H1, H⟩
    isplitl [H1]; · iexact H1
    isplitl [H0]; · iexact H0
    iexact H

/-- A family over the devices, by the place after `c`, or before it. -/
theorem by_up (Φ : Dev nD → sProp 𝕄) : bigSep Finset.univ Φ = iprop(Φ c ∗ bigSep (span 1 31) fun s => Φ (up s c)) := by
  have e := bigSep_univ_equiv (⟨fun s => up s c, fun d => off d c, fun s => by
    have h1 := c.isLt; have h2 := s.isLt
    apply Fin.ext; simp only [up, off]; change c.val < 32 at h1; omega, fun d => up_off d c⟩ : Fin 32 ≃ Dev nD) Φ
  refine e.trans ((cut_first (fun s : Fin 32 => Φ (up s c))).trans ?_)
  have h0 : up 0 c = c := Fin.ext (Nat.mod_eq_of_lt c.isLt)
  rw [h0]
theorem by_dn (Φ : Dev nD → sProp 𝕄) : bigSep Finset.univ Φ = iprop(Φ c ∗ bigSep (span 1 31) fun s => Φ (dn s c)) := by
  have e := bigSep_univ_equiv (⟨fun s => dn s c, fun d => off c d, fun s => off_dn s c, fun d => dn_off c d⟩ : Fin 32 ≃ Dev nD) Φ
  refine e.trans ((cut_first (fun s : Fin 32 => Φ (dn s c))).trans ?_)
  have h0 : dn 0 c = c := by
    have h1 := c.isLt
    apply Fin.ext; simp only [dn]; change c.val < 32 at h1; show (c.val + (32 - 0)) % 32 = c.val; omega
  rw [h0]

/-- A record kept beside every member. -/
theorem fam_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Cert.Gather

end
-- ==== Proof.Body.lean ====
/-
The whole body of one device, its phases put one after another: tell, wait at entry, the steps, the arrivals, the
departures. What it starts from is cut into the pieces the phases take; what they leave is put back together, and the
cells that have run through their rounds are closed.
-/
module

public import proofs.«01_k».proof.Proof.Pieces

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## The wait at entry -/

theorem mayWait_entry : records m K ⊢ (MayWait (c : Thread nD τ) (.reg barSem) () (oweR c 1) : sProp 𝕄) := by
  have h : lvK (kindOf (.reg barSem)) < 2 := by rw [kindOf_bar]; exact Nat.one_lt_two
  have h' : (levels : sProp 𝕄) ⊢ MayWait (c : Thread nD τ) (.reg barSem) () (oweR c 1) := mayWait_owing c (.reg barSem) 1 h
  unfold records
  iintro ⟨-, -, H⟩
  iapply h'
  iexact H

theorem enter_spec :
    iprop(records m K ∗ owe c (oweR c 1 + oweB c 32) ∗ cred (tallyAt (barCell c) () 31) ∗ atPos ER (barCell c) 0 ∅ 0)
      ⊢ wpc (F := F) c (semWaitWord barSem 31#32) (fun _ => iprop(owe c (oweR c 1)
          ∗ (bigSep (span 1 31) fun s => iprop(∃ f, oPts (up s c) c f)) ∗ semVal (barCell c) 0)) := by
  rw [oweB_end, add_zero]
  unfold wpc
  simp only [semWaitWord, Prog.lift]
  unfold owe
  iintro ⟨#HR, ⟨%W, HO⟩, Hc, Hat⟩
  ihave #HI := (inv_at m K (c, .inl ())) $$ HR
  iapply (Rounds.wp_wait_rest_token 𝒱₀ ER (plan m) (c : Thread nD τ) none (κ := K (c, .inl ()))
      (wpE_semWait_eq 𝒱₀ (c : Thread nD τ) none Set.univ) (Set.mem_univ _) ()
      (O := oweR c 1) (W := W) (R := 0) (m := 0) (T := ∅)
      (by rw [Nat.zero_add, expect_bar m c]; decide)) $$ [Hc HO Hat]
  · isplitr; · iexact HI
    isplitl [Hc]; · iexact Hc
    isplitl [HO]; · iexact HO
    isplitr; · iapply (mayWait_entry m K c); iexact HR
    iexact Hat
  iintro ⟨HO, Hat, -, Hpay⟩
  ihave Hp := (Entails.of_eq ((rest_bar m c).trans (by rw [ahead_eq]))) $$ Hpay
  unfold barPay
  rw [wp_ret]
  imod (Rounds.cell_close ER (plan m) (Set.mem_univ (K (c, .inl ()))) (fun h => h) (R := 0 + 1) (later_bar m c)) $$ [Hat] with Hz
  · isplitr; · iexact HI
    iexact Hat
  imodintro
  isplitl [HO]; · iexists _; iexact HO
  isplitl [Hp]; · iexact Hp
  iexact Hz

/-! ## Closing the cells -/

theorem copy_close (n : ℕ) (hn : 16 ≤ n / 2) :
    iprop(records m K ∗ Free m c n) ⊢ |={Set.univ}=> iprop((∃ f, wPts c (slotOf n) f)
      ∗ (wM.view.loc (c : Thread nD τ) ↦{half (slotOf n)} wAll m c) ∗ semVal (copyCell c (slotOf n)) 0) := by
  unfold Free
  iintro ⟨#HR, Hs, Hw, Hat, -⟩
  ihave #HI := (inv_at m K (c, .inr (.inl (slotOf n)))) $$ HR
  imod (Rounds.cell_close ER (plan m) (Set.mem_univ (K (c, .inr (.inl (slotOf n))))) (fun h => h) (R := n / 2)
    (fun r hr => later_copy m c (slotOf n) r (le_trans hn hr))) $$ [Hat] with Hz
  · isplitr; · iexact HI
    iexact Hat
  imodintro
  isplitl [Hs]; · iexact Hs
  isplitl [Hw]; · iexact Hw
  iexact Hz

theorem send_close : iprop(records m K ∗ atPos ER (sendCell c 0) 0 ∅ 0) ⊢ |={Set.univ}=> (semVal (sendCell c 0) 0 : sProp 𝕄) := by
  iintro ⟨#HR, Hat⟩
  ihave #HI := (inv_at m K (c, .inr (.inr (.inl 0)))) $$ HR
  imod (Rounds.cell_close ER (plan m) (Set.mem_univ (K (c, .inr (.inr (.inl 0))))) (fun h => h) (R := 0) (never_send m c)) $$ [Hat] with Hz
  · isplitr; · iexact HI
    iexact Hat
  imodintro
  iexact Hz
theorem recv_close : iprop(records m K ∗ atPos ER (recvCell c 0) 0 ∅ 0) ⊢ |={Set.univ}=> (semVal (recvCell c 0) 0 : sProp 𝕄) := by
  iintro ⟨#HR, Hat⟩
  ihave #HI := (inv_at m K (c, .inr (.inr (.inr 0)))) $$ HR
  imod (Rounds.cell_close ER (plan m) (Set.mem_univ (K (c, .inr (.inr (.inr 0))))) (fun h => h) (R := 0) (never_recv m c)) $$ [Hat] with Hz
  · isplitr; · iexact HI
    iexact Hat
  imodintro
  iexact Hz

/-! ## What the body starts from, and what it leaves -/

/-- The tokens of the duties device `c` pays. -/
def tokens : sProp 𝕄 :=
  iprop((bigSep (span 1 31) fun s => dutyTok ER (barCell (up s c)) 0 (opp s))
    ∗ (bigSep (span 1 31) fun s => dutyTok ER (sendCell c s) 0 0)
    ∗ (bigSep (span 1 31) fun s => dutyTok ER (recvCell (up s c) s) 0 0)
    ∗ bigSep Finset.univ fun s : Fin 32 => copyTok c s.val)
/-- Its positions, all at the start. -/
def places : sProp 𝕄 :=
  iprop(atPos ER (barCell c) 0 ∅ 0 ∗ (bigSep Finset.univ fun b : Fin 2 => atPos ER (copyCell c b) 0 ∅ 0)
    ∗ (bigSep Finset.univ fun s : Fin 32 => atPos ER (sendCell c s) 0 ∅ 0)
    ∗ bigSep Finset.univ fun s : Fin 32 => atPos ER (recvCell c s) 0 ∅ 0)
/-- The credit dealt at launch. -/
def credits : sProp 𝕄 :=
  iprop(cred (tallyAt (barCell c) () 31) ∗ bigSep (span 1 31) fun s => cred (tallyAt (recvCell c s) () NB))
/-- The weights, and the scratch buffers at whatever contents. -/
def weights : sProp 𝕄 := iprop((c : Thread nD τ).loc main_arg1 ↦{fullShare} wAll m c)
def scratch : sProp 𝕄 :=
  iprop((∃ f, (c : Thread nD τ).loc cc0_scratch0 ↦{fullShare} f) ∗ (∃ f, (c : Thread nD τ).loc cc0_scratch1 ↦{fullShare} f)
    ∗ ∃ f, (c : Thread nD τ).loc cc0_scratch2 ↦{fullShare} f)
/-- The kernel's own semaphores, at zero. -/
def zeros : sProp 𝕄 :=
  iprop((bigSep Finset.univ fun b : Fin 2 => semVal (copyCell c b) 0) ∗ (bigSep Finset.univ fun s : Fin 32 => semVal (sendCell c s) 0)
    ∗ bigSep Finset.univ fun s : Fin 32 => semVal (recvCell c s) 0)

theorem two (Φ : Fin 2 → sProp 𝕄) : bigSep Finset.univ Φ = iprop(Φ 0 ∗ Φ 1) := bigSep_fin_two Φ

theorem half_zero : half 0 = fullShare.left := by unfold half; exact if_pos rfl
theorem half_one : half 1 = fullShare.right := by unfold half; exact if_neg (by decide)

/-- Both slots free before the first step. -/
theorem free_start :
    iprop(records m K ∗ weights m c ∗ (bigSep Finset.univ fun b : Fin 2 => iprop(∃ f, wPts c b f))
        ∗ bigSep Finset.univ fun b : Fin 2 => atPos ER (copyCell c b) 0 ∅ 0)
      ⊢ iprop(Free m c 0 ∗ Free m c 1) := by
  rw [two, two]
  unfold weights Free
  iintro ⟨#HR, Hw, ⟨Hs0, Hs1⟩, Ha0, Ha1⟩
  ihave Hw := (pointsTo_share (PosShare.mem_left_op_right fullShare)).1 $$ Hw
  icases Hw with ⟨Hw0, Hw1⟩
  isplitl [Hs0 Hw0 Ha0]
  · isplitl [Hs0]; · iexact Hs0
    isplitl [Hw0]; · rw [show slotOf 0 = 0 from rfl, half_zero]; iexact Hw0
    isplitl [Ha0]; · iexact Ha0
    iapply (begun_at m K (c, .inr (.inl 0))); iexact HR
  · isplitl [Hs1]; · iexact Hs1
    isplitl [Hw1]; · rw [show slotOf 1 = 1 from rfl, half_one]; iexact Hw1
    isplitl [Ha1]; · iexact Ha1
    iapply (begun_at m K (c, .inr (.inl 1))); iexact HR

/-- After the last step both slots and the weights come back, and the two cells close. -/
theorem free_end :
    iprop(records m K ∗ Free m c 32 ∗ Free m c 33)
      ⊢ |={Set.univ}=> iprop(weights m c ∗ (bigSep Finset.univ fun b : Fin 2 => iprop(∃ f, wPts c b f))
        ∗ bigSep Finset.univ fun b : Fin 2 => semVal (copyCell c b) 0) := by
  rw [two, two]
  iintro ⟨#HR, H0, H1⟩
  imod (copy_close m K c 32 (by decide)) $$ [H0] with ⟨Hs0, Hw0, Hz0⟩
  · isplitr; · iexact HR
    iexact H0
  imod (copy_close m K c 33 (by decide)) $$ [H1] with ⟨Hs1, Hw1, Hz1⟩
  · isplitr; · iexact HR
    iexact H1
  rw [show slotOf 32 = 0 from rfl, show slotOf 33 = 1 from rfl, half_zero, half_one]
  imodintro
  unfold weights
  isplitl [Hw0 Hw1]
  · iapply (pointsTo_share (PosShare.mem_left_op_right fullShare)).2
    isplitl [Hw0]; · iexact Hw0
    iexact Hw1
  isplitl [Hs0 Hs1]
  · isplitl [Hs0]; · iexact Hs0
    iexact Hs1
  isplitl [Hz0]; · iexact Hz0
  iexact Hz1

/-- What each step from the first on takes. -/
theorem ship_in :
    iprop((bigSep (span 1 31) fun s => iprop(∃ f, cPts (F := F) c s f)) ∗ (bigSep (span 1 31) fun s => iprop(∃ f, oPts (F := F) (up s c) c f))
        ∗ (bigSep (span 1 31) fun s => dutyTok ER (sendCell c s) 0 0) ∗ (bigSep (span 1 31) fun s => dutyTok ER (recvCell (up s c) s) 0 0))
      ⊢ bigSep (span 1 31) fun s => ShipIn (F := F) c s := by
  unfold ShipIn
  rw [bigSep_sep', bigSep_sep', bigSep_sep']

/-! ## The body -/

/-- The steps: from the scale on, everything up to the last send. -/
theorem steps_spec {Q : PUnit → sProp 𝕄} (p : P F PUnit) :
    iprop(records m K ∗ (Free m c 0 ∗ Free m c 1 ∗ xbPts m c ∗ owe c (oweR c 1) ∗ (bigSep Finset.univ fun s : Fin 32 => copyTok c s.val)
        ∗ (∃ f, oPts c c f) ∗ bigSep (span 1 31) fun s => ShipIn c s)
      ∗ ((Free m c 32 ∗ Free m c 33 ∗ xbPts m c ∗ owe c 0 ∗ rowsDone m c c ∗ bigSep (span 1 31) fun s => cred (tallyAt (sendCell c s) () NB)) -∗ wpc c p Q))
      ⊢ wpc (F := F) c (do
          fetch c 0
          first c (sc m c)
          turns (fetchStep c (sc m c)) 30 1 (by decide)
          step c (sc m c) 31
          p) Q := by
  rw [cut_next (fun n => copyTok c n), cut_last (fun s => ShipIn c s), cut_last (fun s => cred (tallyAt (sendCell c s) () NB))]
  iintro ⟨#HR, ⟨Hf0, Hf1, Hx, HO, ⟨Ht0, Ht1, Hts⟩, Ho, Hs31, Hss⟩, Hk⟩
  unfold wpc
  rw [wp_bind]
  ihave Hw := (fetch_spec m K c 0) $$ [Hf0 Ht0]
  · isplitr; · iexact HR
    isplitl [Hf0]; · iexact Hf0
    unfold copyTok; iexact Ht0
  unfold wpc
  iapply (wp_wand _ _ _) $$ Hw
  iintro %u0 Hfl
  rw [wp_bind]
  ihave Hw := (first_spec m K c) $$ [Hfl Hf1 Hx HO Ht1 Ho]
  · isplitr; · iexact HR
    isplitl [Hfl]; · iexact Hfl
    isplitl [Hf1]; · iexact Hf1
    isplitl [Hx]; · iexact Hx
    isplitl [HO]; · iexact HO
    isplitl [Ht1]; · iexact Ht1
    iexact Ho
  unfold wpc
  iapply (wp_wand _ _ _) $$ Hw
  iintro %u1 ⟨Hrun, Hdone⟩
  rw [wp_bind]
  ihave Hw := (wp_turns c (R := records m K) (fetchStep c (sc m c)) (fun n => Run m c n) (fun s => iprop(copyTok c (s.val + 1) ∗ ShipIn c s))
      (fun s => cred (tallyAt (sendCell c s) () NB)) 1 31 (fun s hs hs' => fetchStep_spec m K c s hs hs') 30 1 (by decide) (by decide) (by decide)) $$ [Hrun Hts Hss]
  · isplitr; · iexact HR
    isplitl [Hrun]; · iexact Hrun
    iapply (Entails.of_eq (bigSep_sep' (span 1 30) (fun s : Fin 32 => copyTok c (s.val + 1)) (fun s => ShipIn c s)).symm)
    isplitl [Hts]; · iexact Hts
    iexact Hss
  unfold wpc
  iapply (wp_wand _ _ _) $$ Hw
  iintro %u2 ⟨Hrun, Hcs⟩
  rw [wp_bind]
  unfold Run
  icases Hrun with ⟨Hfl, Hfr, Hx, HO⟩
  ihave Hw := (step_spec m K c 31 (by decide)) $$ [Hfl Hx HO Hs31]
  · isplitr; · iexact HR
    isplitl [Hfl Hx HO]
    · isplitl [Hfl]; · iexact Hfl
      isplitl [Hx]; · iexact Hx
      iexact HO
    iexact Hs31
  unfold wpc
  iapply (wp_wand _ _ _) $$ Hw
  iintro %u3 ⟨⟨Hfr', Hx, HO⟩, Hc31⟩
  iapply Hk
  isplitl [Hfr]; · iexact Hfr
  isplitl [Hfr']; · iexact Hfr'
  isplitl [Hx]; · iexact Hx
  isplitl [HO]; · rw [← oweR_end c]; iexact HO
  isplitl [Hdone]; · iexact Hdone
  isplitl [Hc31]; · iexact Hc31
  iexact Hcs

/-- The waits at the end, and the rows of every device in place. -/
theorem waits_spec :
    iprop(records m K ∗ (owe c 0 ∗ rowsDone m c c ∗ (bigSep (span 1 31) fun s => cred (tallyAt (sendCell c s) () NB))
        ∗ (bigSep (span 1 31) fun s => cred (tallyAt (recvCell c s) () NB))
        ∗ (bigSep (span 1 31) fun s => atPos ER (sendCell c s) 0 ∅ 0) ∗ bigSep (span 1 31) fun s => atPos ER (recvCell c s) 0 ∅ 0))
      ⊢ wpc (F := F) c (do
          turns (arrive c) 31 1 (by decide)
          turns (depart c) 31 1 (by decide))
        (fun _ => iprop(owe c 0 ∗ (oM.view.loc (c : Thread nD τ) ↦{fullShare} outAt m c) ∗ (bigSep (span 1 31) fun s => iprop(∃ f, cPts (F := F) c s f))
          ∗ (bigSep (span 1 31) fun s => semVal (sendCell c s) 0) ∗ bigSep (span 1 31) fun s => semVal (recvCell c s) 0)) := by
  iintro ⟨#HR, HO, Hdone, Hcs, Hcr, Has, Har⟩
  unfold wpc
  rw [wp_bind]
  ihave Hw := (wp_turns c (R := records m K) (arrive c) (fun _ => owe c 0) (fun s => iprop(cred (tallyAt (recvCell c s) () NB) ∗ atPos ER (recvCell c s) 0 ∅ 0))
      (fun s => iprop(rowsDone m c (dn s c) ∗ semVal (recvCell c s) 0)) 1 32 (fun s hs _ => arrive_spec m K c s hs) 31 1 (by decide) (by decide) (by decide)) $$ [HO Hcr Har]
  · isplitr; · iexact HR
    isplitl [HO]; · iexact HO
    iapply (Entails.of_eq (bigSep_sep' (span 1 31) (fun s : Fin 32 => cred (tallyAt (recvCell c s) () NB)) (fun s => atPos ER (recvCell c s) 0 ∅ 0)).symm)
    isplitl [Hcr]; · iexact Hcr
    iexact Har
  unfold wpc
  iapply (wp_wand _ _ _) $$ Hw
  iintro %u0 ⟨HO, Hrows⟩
  ihave Hrows := (Entails.of_eq (bigSep_sep' (span 1 31) (fun s : Fin 32 => rowsDone m c (dn s c)) (fun s => semVal (recvCell c s) 0))) $$ Hrows
  icases Hrows with ⟨Hrows, Hzr⟩
  ihave Hw := (wp_turns c (R := records m K) (depart c) (fun _ => owe c 0) (fun s => iprop(cred (tallyAt (sendCell c s) () NB) ∗ atPos ER (sendCell c s) 0 ∅ 0))
      (fun s => iprop((∃ f, cPts c s f) ∗ semVal (sendCell c s) 0)) 1 32 (fun s hs _ => depart_spec m K c s hs) 31 1 (by decide) (by decide) (by decide)) $$ [HO Hcs Has]
  · isplitr; · iexact HR
    isplitl [HO]; · iexact HO
    iapply (Entails.of_eq (bigSep_sep' (span 1 31) (fun s : Fin 32 => cred (tallyAt (sendCell c s) () NB)) (fun s => atPos ER (sendCell c s) 0 ∅ 0)).symm)
    isplitl [Hcs]; · iexact Hcs
    iexact Has
  unfold wpc
  iapply (wp_wand _ _ _) $$ Hw
  iintro %u1 ⟨HO, Hslots⟩
  ihave Hslots := (Entails.of_eq (bigSep_sep' (span 1 31) (fun s : Fin 32 => iprop(∃ f, cPts (F := F) c s f)) (fun s => semVal (sendCell c s) 0))) $$ Hslots
  icases Hslots with ⟨Hslots, Hzs⟩
  isplitl [HO]; · iexact HO
  isplitl [Hdone Hrows]
  · iapply (out_join m c)
    iapply (Entails.of_eq (by_dn c (fun e => rowsDone m c e)).symm)
    isplitl [Hdone]; · iexact Hdone
    iexact Hrows
  isplitl [Hslots]; · iexact Hslots
  isplitl [Hzs]; · iexact Hzs
  iexact Hzr

/-- Everything device `c` holds when the body begins, besides the record; and when it ends. -/
def before : sProp 𝕄 :=
  iprop(tokens c ∗ places c ∗ credits c ∗ weights m c ∗ scratch c ∗ owe c (O₀ c) ∗ xPts m c ∗ saPts m c ∗ sbPts m c
    ∗ ∃ f, (c : Thread nD τ).loc cc0_stg3_0 ↦{fullShare} f)
def left : sProp 𝕄 := iprop(scratch c ∗ zeros c ∗ semVal (barCell c) 0 ∗ weights m c)
def after : sProp 𝕄 :=
  iprop(left m c ∗ owe c 0 ∗ xPts m c ∗ saPts m c ∗ sbPts m c ∗ (oM.view.loc (c : Thread nD τ) ↦{fullShare} outAt m c))

theorem body_spec : iprop(records m K ∗ before m c) ⊢ wpc (F := F) c body (fun _ => after m c) := by
  unfold before tokens places credits scratch body wpc
  simp only [Prog.lift, Prog.bind_op, Prog.bind_ret, wp_deviceId]
  iintro ⟨#HR, ⟨HtB, HtS, HtR, HtC⟩, ⟨HaB, HaC, HaS, HaR⟩, ⟨HcB, HcR⟩, Hw, ⟨Hs0, Hs1, Hs2⟩, HO, Hx, Ha, Hb, Hout⟩
  -- the pieces
  ihave Hf := (out_split c) $$ Hout
  ihave Hf := (Entails.of_eq (by_up c (fun e => iprop(∃ f, oPts (F := F) c e f)))) $$ Hf
  icases Hf with ⟨Hown, Hothers⟩
  ihave Hf := (w_split c) $$ Hs1
  icases Hf with ⟨Hws, HwR⟩
  ihave Hf := (c_split c) $$ Hs2
  icases Hf with ⟨Hcm, HcmR⟩
  ihave Hf := (Entails.of_eq (cut_first (fun s => iprop(∃ f, cPts (F := F) c s f)))) $$ Hcm
  icases Hf with ⟨Hc0, Hcm⟩
  ihave Hf := (Entails.of_eq (cut_first (fun s => (atPos ER (sendCell c s) 0 ∅ 0 : sProp 𝕄)))) $$ HaS
  icases Hf with ⟨HaS0, HaS⟩
  ihave Hf := (Entails.of_eq (cut_first (fun s => (atPos ER (recvCell c s) 0 ∅ 0 : sProp 𝕄)))) $$ HaR
  icases Hf with ⟨HaR0, HaR⟩
  ihave Hf := (free_start m K c) $$ [Hw Hws HaC]
  · isplitr; · iexact HR
    isplitl [Hw]; · iexact Hw
    isplitl [Hws]; · iexact Hws
    iexact HaC
  icases Hf with ⟨Hf0, Hf1⟩
  -- every other device hears that this one has entered
  rw [wp_bind]
  ihave Hrun := (wp_turns c (R := records m K) (tell c) (fun n => owe c (oweR c 1 + oweB c n))
      (fun s => iprop(dutyTok ER (barCell (up s c)) 0 (opp s) ∗ ∃ f, oPts c (up s c) f)) (fun _ => iprop(emp))
      1 32 (fun s hs _ => tell_spec m K c s hs) 31 1 (by decide) (by decide) (by decide)) $$ [HO HtB Hothers]
  · isplitr; · iexact HR
    isplitl [HO]; · iexact HO
    iapply (Entails.of_eq (bigSep_sep' (span 1 31) (fun s : Fin 32 => dutyTok ER (barCell (up s c)) 0 (opp s)) (fun s => iprop(∃ f, oPts (F := F) c (up s c) f))).symm)
    isplitl [HtB]; · iexact HtB
    iexact Hothers
  unfold wpc
  iapply (wp_wand _ _ _) $$ Hrun
  iintro %u0 ⟨HO, -⟩
  -- and this one waits for all of them
  rw [wp_bind]
  ihave Hrun := (enter_spec m K c) $$ [HO HcB HaB]
  · isplitr; · iexact HR
    isplitl [HO]; · iexact HO
    isplitl [HcB]; · iexact HcB
    iexact HaB
  unfold wpc
  iapply (wp_wand _ _ _) $$ Hrun
  iintro %u1 ⟨HO, Hrows, HzB⟩
  rw [wp_bind]
  ihave Hrun := (prologue_spec m c) $$ [Hx Ha Hb Hs0]
  · isplitl [Hx]; · iexact Hx
    isplitl [Ha]; · iexact Ha
    isplitl [Hb]; · iexact Hb
    iexact Hs0
  unfold wpc
  iapply (wp_wand _ _ _) $$ Hrun
  iintro %v ⟨%hv, Hx, Ha, Hb, Hxb⟩
  subst hv
  ihave Hin := (ship_in c) $$ [Hcm Hrows HtS HtR]
  · isplitl [Hcm]; · iexact Hcm
    isplitl [Hrows]; · iexact Hrows
    isplitl [HtS]; · iexact HtS
    iexact HtR
  iapply (steps_spec m K c _)
  isplitr; · iexact HR
  isplitl [Hf0 Hf1 Hxb HO HtC Hown Hin]
  · isplitl [Hf0]; · iexact Hf0
    isplitl [Hf1]; · iexact Hf1
    isplitl [Hxb]; · iexact Hxb
    isplitl [HO]; · iexact HO
    isplitl [HtC]; · iexact HtC
    isplitl [Hown]; · iexact Hown
    iexact Hin
  iintro ⟨Hf0, Hf1, Hxb, HO, Hdone, Hcs⟩
  ihave Hrun := (waits_spec m K c) $$ [HO Hdone Hcs HcR HaS HaR]
  · isplitr; · iexact HR
    isplitl [HO]; · iexact HO
    isplitl [Hdone]; · iexact Hdone
    isplitl [Hcs]; · iexact Hcs
    isplitl [HcR]; · iexact HcR
    isplitl [HaS]; · iexact HaS
    iexact HaR
  unfold wpc
  iapply (wp_fupd _ _ _ _ _)
  iapply (wp_wand _ _ _) $$ Hrun
  iintro %u2 ⟨HO, Hout, Hcm, HzS, HzR⟩
  imod (free_end m K c) $$ [Hf0 Hf1] with ⟨Hw, Hws, HzC⟩
  · isplitr; · iexact HR
    isplitl [Hf0]; · iexact Hf0
    iexact Hf1
  imod (send_close m K c) $$ [HaS0] with HzS0
  · isplitr; · iexact HR
    iexact HaS0
  imod (recv_close m K c) $$ [HaR0] with HzR0
  · isplitr; · iexact HR
    iexact HaR0
  imodintro
  unfold after left scratch zeros
  isplitl [Hxb HwR Hws HcmR Hcm Hc0 HzC HzS HzS0 HzR HzR0 HzB Hw]
  · isplitl [Hxb HwR Hws HcmR Hcm Hc0]
    · isplitl [Hxb]; · iexists (xb m c); unfold xbPts; iexact Hxb
      isplitl [HwR Hws]
      · iapply (w_join c)
        isplitl [Hws]; · iexact Hws
        iexact HwR
      iapply (c_join c)
      isplitl [Hcm Hc0]
      · iapply (Entails.of_eq (cut_first (fun s => iprop(∃ f, cPts (F := F) c s f))).symm)
        isplitl [Hc0]; · iexact Hc0
        iexact Hcm
      iexact HcmR
    isplitl [HzC HzS HzS0 HzR HzR0]
    · isplitl [HzC]; · iexact HzC
      isplitl [HzS HzS0]
      · iapply (Entails.of_eq (cut_first (fun s => (semVal (sendCell c s) 0 : sProp 𝕄))).symm)
        isplitl [HzS0]; · iexact HzS0
        iexact HzS
      iapply (Entails.of_eq (cut_first (fun s => (semVal (recvCell c s) 0 : sProp 𝕄))).symm)
      isplitl [HzR0]; · iexact HzR0
      iexact HzR
    isplitl [HzB]; · iexact HzB
    iexact Hw
  isplitl [HO]; · iexact HO
  isplitl [Hx]; · iexact Hx
  isplitl [Ha]; · iexact Ha
  isplitl [Hb]; · iexact Hb
  iexact Hout

end Cert.Gather

end
-- ==== Proof.Start.lean ====
/-
What the launch deals. Every cell's rounds and every duty's token are made at once; the cells' invariants are opened
for all devices together; then the tokens go round the ring, each to the device that pays its duty. The credit a
device is given is what the others owe it: a unit from each at its barrier, a block's worth at each receiving cell.
-/
module

public import proofs.«01_k».proof.Proof.Body
public import Idealize.ShloMosaic.Lib.Pipeline.Launch
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

def allCells : Finset (GSem nD τ sig) := Finset.univ.map ⟨kcell, kcell_injective⟩

/-- The duties of one device's cells: its barrier's, its sending cells', its receiving cells', its copies' by step. -/
abbrev TI : Type := Fin 32 ⊕ (Fin 32 ⊕ (Fin 32 ⊕ Fin 32))
abbrev tokOf (ct : Dev nD × TI) : GSem nD τ sig × ℕ × Fin 32 := match ct.2 with
  | .inl s => (barCell ct.1, 0, s)
  | .inr (.inl s) => (sendCell ct.1 s, 0, 0)
  | .inr (.inr (.inl s)) => (recvCell ct.1 s, 0, 0)
  | .inr (.inr (.inr s)) => (copyCell ct.1 (slotOf s.val), s.val / 2, 0)

/-- Which duty a token is for, read off its cell's kind. -/
def tokKind : Option CI → ℕ → Fin 32 → Option TI
  | some (.inl _), _, t => some (.inl t)
  | some (.inr (.inl b)), r, _ => some (.inr (.inr (.inr (stepOf b r))))
  | some (.inr (.inr (.inl s))), _, _ => some (.inr (.inl s))
  | some (.inr (.inr (.inr s))), _, _ => some (.inr (.inr (.inl s)))
  | none, _, _ => none

theorem tokKind_tokOf (c : Dev nD) : ∀ t : TI,
    tokKind (kindOf (tokOf (c, t)).1.2) (tokOf (c, t)).2.1 (tokOf (c, t)).2.2 = some t
  | .inl s => by show tokKind (kindOf (.reg barSem)) 0 s = _; rw [kindOf_bar]; rfl
  | .inr (.inl s) => by show tokKind (kindOf (.dma (sendSem s))) 0 0 = _; rw [kindOf_send]; rfl
  | .inr (.inr (.inl s)) => by show tokKind (kindOf (.dma (recvSem s))) 0 0 = _; rw [kindOf_recv]; rfl
  | .inr (.inr (.inr s)) => by
    show tokKind (kindOf (.dma (copySem (slotOf s.val)))) (s.val / 2) 0 = _
    rw [kindOf_copy]
    show some (Sum.inr (Sum.inr (Sum.inr (stepOf (slotOf s.val) (s.val / 2)))) : TI) = _
    rw [stepOf_eq, ofNat_val]

theorem tokOf_dev (c : Dev nD) : ∀ t : TI, (tokOf (c, t)).1.1.1 = c
  | .inl _ => rfl
  | .inr (.inl _) => rfl
  | .inr (.inr (.inl _)) => rfl
  | .inr (.inr (.inr _)) => rfl

theorem tokOf_injective : Function.Injective tokOf := by
  rintro ⟨c, t⟩ ⟨c', t'⟩ h
  have h1 : c = c' := by rw [← tokOf_dev c t, ← tokOf_dev c' t', h]
  have h2 : some t = some t' := by rw [← tokKind_tokOf c t, ← tokKind_tokOf c' t', h]
  rw [h1, Option.some.inj h2]

def allToks : Finset (GSem nD τ sig × ℕ × Fin 32) := Finset.univ.map ⟨tokOf, tokOf_injective⟩

/-- The launch's ghost state: the pipeline's, and every cell and token of the exchange. -/
def u₀ : UU :=
  (initOf (Pipeline.cells cfgs cellOf_inj) (Pipeline.launchToks cfgs cellOf_inj), initOf allCells allToks)

/-! ## Families over the cells of one device -/

theorem sums {A B : Type} [Fintype A] [Fintype B] (Φ : A ⊕ B → sProp 𝕄) :
    bigSep Finset.univ Φ = iprop((bigSep Finset.univ fun a => Φ (.inl a)) ∗ bigSep Finset.univ fun b => Φ (.inr b)) :=
  bigSep_univ_sum Φ

theorem fam_own (Φ : OI → sProp 𝕄) : bigSep Finset.univ Φ = iprop((bigSep Finset.univ fun b : Fin 2 => Φ (.inl b))
    ∗ (bigSep Finset.univ fun s : Fin 32 => Φ (.inr (.inl s))) ∗ bigSep Finset.univ fun s : Fin 32 => Φ (.inr (.inr s))) := by
  rw [sums, sums]
theorem fam_all (Φ : CI → sProp 𝕄) : bigSep Finset.univ Φ = iprop(Φ (.inl ()) ∗ bigSep Finset.univ fun k : OI => Φ (.inr k)) := by
  rw [sums]
  congr 1
  exact (congrArg (fun S => bigSep S fun a : Unit => Φ (.inl a)) (show (Finset.univ : Finset Unit) = {()} from rfl)).trans
    (bigSep_singleton (i := ()) (Φ := fun a : Unit => Φ (.inl a)))

/-- A family over devices and steps, each step's turned round the ring by as many places. -/
theorem around (Φ : Dev nD → Fin 32 → sProp 𝕄) :
    (bigSep Finset.univ fun c : Dev nD => bigSep Finset.univ fun s : Fin 32 => Φ c s)
      = bigSep Finset.univ fun c : Dev nD => bigSep Finset.univ fun s : Fin 32 => Φ (up s c) s :=
  (Pipeline.bigSep_univ_comm Φ).trans ((bigSep_congr fun s _ => bigSep_univ_equiv (turn s) fun c => Φ c s).trans
    (Pipeline.bigSep_univ_comm fun (s : Fin 32) (c : Dev nD) => Φ (up s c) s))
/-- The steps taken in the opposite order round. -/
theorem opposite (Φ : Fin 32 → sProp 𝕄) : bigSep Finset.univ Φ = bigSep Finset.univ fun s : Fin 32 => Φ (opp s) :=
  bigSep_univ_equiv (⟨opp, opp, opp_opp, opp_opp⟩ : Fin 32 ≃ Fin 32) Φ
/-- The steps that go anywhere. -/
theorem moving (Φ : Fin 32 → sProp 𝕄) : bigSep Finset.univ Φ ⊢ bigSep (span 1 31) Φ := by
  rw [cut_first]; iintro ⟨-, H⟩; iexact H

theorem all_moving (Φ : Dev nD → Fin 32 → sProp 𝕄) :
    (bigSep Finset.univ fun c : Dev nD => bigSep Finset.univ fun s : Fin 32 => Φ c s) ⊢ bigSep Finset.univ fun c : Dev nD => bigSep (span 1 31) (Φ c) :=
  bigSep_mono fun c _ => moving (Φ c)

/-! ## What a device is dealt -/

/-- The tokens of its own cells' duties. -/
def ownToks (c : Dev nD) : sProp 𝕄 :=
  iprop((bigSep Finset.univ fun s : Fin 32 => dutyTok ER (barCell c) 0 s) ∗ (bigSep Finset.univ fun s : Fin 32 => dutyTok ER (sendCell c s) 0 0)
    ∗ (bigSep Finset.univ fun s : Fin 32 => dutyTok ER (recvCell c s) 0 0) ∗ bigSep Finset.univ fun s : Fin 32 => copyTok c s.val)

def G (c : Dev nD) : sProp 𝕄 :=
  iprop((bigSep Finset.univ fun k : CI => roundState ER (plan m) (kcell (c, k)) 0)
    ∗ ((bigSep Finset.univ fun k : CI => atPos ER (kcell (c, k)) 0 ∅ 0) ∗ bigSep Finset.univ fun k : CI => reached ER (kcell (c, k)) 0)
    ∗ ownToks c)

theorem ownToks_eq (c : Dev nD) :
    (bigSep Finset.univ fun t : TI => (dutyTok ER (tokOf (c, t)).1 (tokOf (c, t)).2.1 (tokOf (c, t)).2.2 : sProp 𝕄)) = ownToks c := by
  rw [sums, sums, sums]; rfl

theorem fund : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => ownToks_eq c
  iintro HX
  imod (Rounds.fund ER (plan m) allCells allToks) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the cells' invariants -/

theorem ownSems0_eq (c : Dev nD) :
    (Pipeline.ownSems0 (Ix := Unit) (Name := ℕ) (U := UU) (Lvl := ℕ) (Val := Elt F) (τ := τ) osem c : sProp 𝕄) = zeros c := by
  unfold Pipeline.ownSems0; rw [fam_own]; rfl
theorem unscopedSems0_eq (c : Dev nD) : (unscopedSems0 c : sProp 𝕄) = semVal (barCell c) 0 := by
  unfold unscopedSems0; rw [bigSep_eq_bigSepL_of_eq [SemLoc.reg barSem] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, fam_all]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (plan m) κ (kcell (c, k))))
          ∗ ((bigSep Finset.univ fun k : CI => atPos ER (kcell (c, k)) 0 ∅ 0) ∗ bigSep Finset.univ fun k : CI => reached ER (kcell (c, k)) 0)
          ∗ ownToks c) := by
  unfold G
  iintro ⟨Hos, Hus, Hst, Hat, Htok⟩
  ihave Hv := (sems0 (F := F) c) $$ [Hos Hus]
  · isplitl [Hos] <;> iassumption
  imod (show iprop((bigSep Finset.univ fun k : CI => semVal (kcell (c, k)) 0) ∗ bigSep Finset.univ fun k : CI => roundState ER (plan m) (kcell (c, k)) 0)
      ⊢ (|={Set.univ}=> bigSep Finset.univ fun k : CI => iprop(∃ κ : ℕ, cellInv ER (plan m) κ (kcell (c, k))) : sProp 𝕄) from by
        rw [← bigSep_sep']
        exact (bigSep_mono fun k _ => (Rounds.body_intro ER (plan m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The record but for the levels. -/
def opened (K : Dev nD × CI → ℕ) : sProp 𝕄 :=
  iprop((bigSep Finset.univ fun ck : Dev nD × CI => cellInv ER (plan m) (K ck) (kcell ck))
    ∗ bigSep Finset.univ fun ck : Dev nD × CI => reached ER (kcell ck) 0)
instance opened_persistent (K : Dev nD × CI → ℕ) : BI.Persistent (opened (F := F) m K) := by unfold opened; infer_instance

def G' (c : Dev nD) : sProp 𝕄 := iprop((∃ K, opened m K) ∗ tokens c ∗ places c)

/-- Every token at the device that pays the duty. -/
theorem toks_around : (bigSep Finset.univ fun c : Dev nD => (ownToks c : sProp 𝕄)) ⊢ bigSep Finset.univ fun c : Dev nD => tokens c := by
  have hB : (bigSep Finset.univ fun c : Dev nD => bigSep Finset.univ fun s : Fin 32 => (dutyTok ER (barCell c) 0 s : sProp 𝕄))
      = bigSep Finset.univ fun c : Dev nD => bigSep Finset.univ fun s : Fin 32 => dutyTok ER (barCell (up s c)) 0 (opp s) :=
    (bigSep_congr fun c _ => opposite fun s => dutyTok ER (barCell c) 0 s).trans
      (around fun c s => dutyTok ER (barCell c) 0 (opp s))
  have hR := around (F := F) fun c s => (dutyTok ER (recvCell c s) 0 0 : sProp 𝕄)
  unfold ownToks tokens
  rw [bigSep_sep', bigSep_sep', bigSep_sep', bigSep_sep', bigSep_sep', bigSep_sep', hB, hR]
  iintro ⟨H1, H2, H3, H4⟩
  isplitl [H1]; · iapply (all_moving fun c s => dutyTok ER (barCell (up s c)) 0 (opp s)); iexact H1
  isplitl [H2]; · iapply (all_moving fun c s => dutyTok ER (sendCell c s) 0 0); iexact H2
  isplitl [H3]; · iapply (all_moving fun c s => dutyTok ER (recvCell (up s c) s) 0 0); iexact H3
  iexact H4

theorem places_eq (c : Dev nD) : (bigSep Finset.univ fun k : CI => (atPos ER (kcell (c, k)) 0 ∅ 0 : sProp 𝕄)) = places c := by
  rw [fam_all, fam_own]; rfl

theorem regroup :
    (bigSep Finset.univ fun c : Dev nD => iprop((bigSep Finset.univ fun k : CI => iprop(∃ κ : ℕ, cellInv ER (plan m) κ (kcell (c, k))))
          ∗ ((bigSep Finset.univ fun k : CI => atPos ER (kcell (c, k)) 0 ∅ 0) ∗ bigSep Finset.univ fun k : CI => reached ER (kcell (c, k)) 0)
          ∗ ownToks c) : sProp 𝕄)
      ⊢ bigSep Finset.univ (G' m) := by
  rw [bigSep_sep', bigSep_sep', bigSep_sep', ← bigSep_univ_prod (fun ck : Dev nD × CI => iprop(∃ κ : ℕ, cellInv ER (plan m) κ (kcell ck))),
    ← bigSep_univ_prod (fun ck : Dev nD × CI => (reached ER (kcell ck) 0 : sProp 𝕄)), bigSep_congr (s := Finset.univ) (fun (c : Dev nD) _ => places_eq c)]
  iintro ⟨HI, ⟨Hat, #HR⟩, Htok⟩
  ihave HK := (BI.bigSep_exists_pi Finset.univ (fun (ck : Dev nD × CI) (κ : ℕ) => (cellInv ER (plan m) κ (kcell ck) : sProp 𝕄))) $$ HI
  icases HK with ⟨%K, #HI⟩
  ihave Htk := (toks_around (F := F)) $$ Htok
  iapply (fam_with (R := opened m K) (Φ := fun c : Dev nD => iprop(tokens c ∗ places c)) fun c _ => by
    unfold G'
    iintro ⟨#H, Ht⟩
    isplitr; · iexists K; iexact H
    iexact Ht)
  isplitr
  · unfold opened; isplitl; · iexact HI
    iexact HR
  · rw [bigSep_sep']
    isplitl [Htk]; · iexact Htk
    iexact Hat

theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-! ## The credit -/

theorem bar_cell_iff {a b : Dev nD} : Iff (barCell a = barCell b) (a = b) :=
  ⟨fun h => congrArg (fun g : GSem nD τ sig => g.1.1) h, fun h => h ▸ rfl⟩
theorem recv_cell_iff {a b : Dev nD} {s t : Fin 32} : Iff (recvCell a s = recvCell b t) (a = b ∧ s = t) :=
  ⟨fun h => ⟨congrArg (fun g : GSem nD τ sig => g.1.1) h, by
    have h' := congrArg (fun g : GSem nD τ sig => kindOf g.2) h
    change kindOf (.dma (recvSem s)) = kindOf (.dma (recvSem t)) at h'
    rw [kindOf_recv, kindOf_recv] at h'
    exact Sum.inr.inj (Sum.inr.inj (Sum.inr.inj (Option.some.inj h')))⟩, fun ⟨h, h'⟩ => h ▸ h' ▸ rfl⟩
theorem recv_cell_ne_bar (a b : Dev nD) (s : Fin 32) : recvCell a s ≠ barCell b := fun h => by
  have h' := congrArg (fun g : GSem nD τ sig => kindOf g.2) h
  change kindOf (.dma (recvSem s)) = kindOf (.reg barSem) at h'
  rw [kindOf_recv, kindOf_bar] at h'
  exact absurd (Option.some.inj h') (fun h => by cases h)

/-- One device is `s` places before `c`. -/
theorem sum_up (s : Fin 32) (c : Dev nD) (n : ℕ) : (∑ d : Dev nD, if up s d = c then n else 0) = n := by
  have h (d : Dev nD) : (if up s d = c then n else 0) = if d = dn s c then n else 0 :=
    if_congr ⟨fun h => by rw [← h, dn_up], fun h => by rw [h, up_dn]⟩ rfl rfl
  rw [Finset.sum_congr rfl fun d _ => h d, Finset.sum_ite_eq', if_pos (Finset.mem_univ _)]

theorem sum_tally_apply (S : Finset (Fin 32)) (cell : Fin 32 → GSem nD τ sig) (n : ℕ) (g : GSem nD τ sig) :
    (∑ s ∈ S, (tallyAt (cell s) () n : CellTallies nD τ sig Unit)) g () = ∑ s ∈ S, if g = cell s then n else 0 := by
  rw [Finset.sum_apply, Finsupp.finset_sum_apply]
  refine Finset.sum_congr rfl fun s _ => ?_
  rw [tallyAt_apply]
  exact if_congr ⟨fun h => h.1, fun h => ⟨h, rfl⟩⟩ rfl rfl

theorem owed_bar (d c : Dev nD) : O₀ d (barCell c) () = ∑ s ∈ ahead 1, if up s d = c then 1 else 0 := by
  unfold O₀ oweR oweB
  rw [Pi.add_apply, Finsupp.add_apply, sum_tally_apply, sum_tally_apply,
    Finset.sum_eq_zero fun s _ => if_neg (fun h => recv_cell_ne_bar _ _ _ h.symm), Nat.zero_add]
  exact Finset.sum_congr rfl fun s _ => if_congr (eq_comm.trans bar_cell_iff) rfl rfl
theorem owed_recv (d c : Dev nD) (s : Fin 32) (hs : 1 ≤ s.val) : O₀ d (recvCell c s) () = if up s d = c then NB else 0 := by
  unfold O₀ oweR oweB
  rw [Pi.add_apply, Finsupp.add_apply, sum_tally_apply, sum_tally_apply,
    Finset.sum_eq_zero (s := ahead 1) (f := fun t => if recvCell c s = barCell (up t d) then 1 else 0) fun t _ => if_neg (recv_cell_ne_bar _ _ _), Nat.add_zero,
    Finset.sum_eq_single s (fun t _ ht => if_neg fun h => ht (recv_cell_iff.mp h).2.symm) (fun h => absurd (mem_ahead.mpr hs) h)]
  exact if_congr ⟨fun h => (recv_cell_iff.mp h).1.symm, fun h => recv_cell_iff.mpr ⟨h.symm, rfl⟩⟩ rfl rfl

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun s _ => sum_up s c 1]
  decide
theorem launch_recv (c : Dev nD) (s : Fin 32) (hs : 1 ≤ s.val) :
    tallyOn (recvCell c s) (launchCredit (Pipeline.owing O₀) 0 (recvCell c s)) = (tallyAt (recvCell c s) () NB : CellTallies nD τ sig Unit) := by
  unfold tallyAt; refine congrArg _ (Finsupp.ext fun u => ?_); cases u
  rw [Pipeline.launchCredit_owing, Finsupp.single_eq_same, Finset.sum_congr rfl fun d _ => owed_recv d c s hs, sum_up]

theorem recvSem_injective : Function.Injective fun s : Fin 32 => (SemLoc.dma (recvSem s) : SemLoc sig) := fun s t h => by
  have h' := congrArg kindOf h
  change kindOf (.dma (recvSem s)) = kindOf (.dma (recvSem t)) at h'
  rw [kindOf_recv, kindOf_recv] at h'
  exact Sum.inr.inj (Sum.inr.inj (Sum.inr.inj (Option.some.inj h')))

theorem creds (c : Dev nD) : (Pipeline.launchCred O₀ c : sProp 𝕄) ⊢ credits c := by
  unfold Pipeline.launchCred credits
  rw [bigSep_univ_at _ (SemLoc.reg barSem), launch_bar]
  refine sep_mono_right ?_
  have hsub : (span 1 31).map ⟨_, recvSem_injective⟩ ⊆ Finset.univ.erase (SemLoc.reg barSem : SemLoc sig) := fun x hx => by
    obtain ⟨s, -, rfl⟩ := Finset.mem_map.mp hx
    exact Finset.mem_erase.mpr ⟨(fun h => by cases h), Finset.mem_univ _⟩
  refine (bigSep_subset hsub).trans ?_
  rw [bigSep_map]
  exact bigSep_mono fun s hs => Entails.of_eq (congrArg cred (launch_recv c s (mem_span.mp hs).1))

end Cert.Gather

end
-- ==== Proof.Run.lean ====
/-
The run of all devices: the proof data the pipeline's launch takes — what is staged, what each device holds before and
after its one point — and the run itself, from any memory with zero counters, for any float values.
-/
module

public import proofs.«01_k».proof.Proof.Start

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

abbrev s₀ : MemSt nD τ sig (Elt F) := ⟨m, fun _ => 0, ρ⟩

/-- What a device begins with but for its scratch buffers. -/
def start (c : Dev nD) : sProp 𝕄 := iprop((∃ K, records m K) ∗ tokens c ∗ places c ∗ credits c ∗ weights m c)
def Φ₀ (c : Dev nD) : sProp 𝕄 := iprop(start m c ∗ scratch c)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => sa m c
    | ⟨2, _⟩ => sb m c
    | ⟨3, _⟩ => outAt m c
  Φ t := match t with
    | ⟨0, _⟩ => Φ₀ m c
    | ⟨_ + 1, _⟩ => left m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

set_option maxRecDepth 4000 in
def pre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

set_option maxRecDepth 4000 in
def post (c : Dev nD) : sProp 𝕄 :=
  iprop(left m c ∗ (dats m 0 c).owesAt () t0_0.succ
    ∗ stg c cc0_stg0_0 (xs m c) ∗ stg c cc0_stg1_0 (sa m c) ∗ stg c cc0_stg2_0 (sb m c) ∗ stg c cc0_stg3_0 (outAt m c))

theorem staged0 (c : Dev nD) (d) : (dats m 0 c).before (0 : Fin 4) t0_0 d = xs m c := by
  unfold Dat.before; rw [if_pos (fetch0_0 t0_0)]; rfl
theorem staged1 (c : Dev nD) (d) : (dats m 0 c).before (1 : Fin 4) t0_0 d = sa m c := by
  unfold Dat.before; rw [if_pos (fetch0_1 t0_0)]; rfl
theorem staged2 (c : Dev nD) (d) : (dats m 0 c).before (2 : Fin 4) t0_0 d = sb m c := by
  unfold Dat.before; rw [if_pos (fetch0_2 t0_0)]; rfl

theorem pre_start (c : Dev nD) : pre m c ⊢ iprop(∃ K, records m K ∗ before m c) := by
  unfold pre Φ₀ start before xPts saPts sbPts owe Dat.owesAt Pipeline.owesWithin
  iintro ⟨⟨⟨⟨%K, HR⟩, Ht, Hp, Hc, Hw⟩, Hs⟩, ⟨%W, %hW, HO⟩, ⟨%d0, %g0, %h0, H0⟩, ⟨%d1, %g1, %h1, H1⟩, ⟨%d2, %g2, %h2, H2⟩, ⟨%d3, %g3, %h3, H3⟩⟩
  rw [staged0] at h0; rw [staged1] at h1; rw [staged2] at h2
  subst h0 h1 h2
  iexists K
  isplitl [HR]; · iexact HR
  isplitl [Ht]; · iexact Ht
  isplitl [Hp]; · iexact Hp
  isplitl [Hc]; · iexact Hc
  isplitl [Hw]; · iexact Hw
  isplitl [Hs]; · iexact Hs
  isplitl [HO]; · iexists W; iexact HO
  isplitl [H0]; · iexact H0
  isplitl [H1]; · iexact H1
  isplitl [H2]; · iexact H2
  iexists g3; iexact H3

theorem after_post (c : Dev nD) : after m c ⊢ post m c := by
  unfold after post xPts saPts sbPts owe Dat.owesAt Pipeline.owesWithin
  iintro ⟨Hl, ⟨%W, HO⟩, H0, H1, H2, H3⟩
  isplitl [Hl]; · iexact Hl
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  iexists _; isplitr; · (ipureintro; rfl)
  iexact H3

theorem body_run (c : Dev nD) : pre m c ⊢ wpc (F := F) c body (fun _ => post m c) := by
  refine (pre_start m c).trans ?_
  iintro ⟨%K, H⟩
  ihave H := (body_spec m K c) $$ H
  unfold wpc
  iapply (show wp frame (wpE (defs₀ (F := F)) 𝒱₀ (c : Thread nD τ) none) Set.univ body (fun _ => after m c)
    ⊢ wp frame (wpE (defs₀ (F := F)) 𝒱₀ (c : Thread nD τ) none) Set.univ body (fun _ => post m c) from wp_mono _ _ _ fun _ => after_post m c)
  iexact H

set_option maxRecDepth 16000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show pre m c ⊢ wp frame (wpE (defs₀ (F := F)) 𝒱₀ (c : Thread nD τ) none) Set.univ (bodyAt0 (F := F) t0_0) (fun _ => post m c)
  rw [body_eq]
  exact body_run m c

/-! ## The launch's conditions -/

theorem own_facts : Pipeline.OwnSemFacts cfg0.spec osem := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' opened records levels weights
  iintro ⟨Hw, Hlev, Hcr, -, ⟨⟨%K, HI, Hb⟩, Ht, Hp⟩⟩
  ihave Hc := (creds (F := F) c) $$ Hcr
  imodintro
  isplitl
  · isplitl [HI Hb Hlev]
    · iexists K
      isplitl [HI]; · iexact HI
      isplitl [Hb]; · iexact Hb
      iexact Hlev
    isplitl [Ht]; · iexact Ht
    isplitl [Hp]; · iexact Hp
    isplitl [Hc]; · iexact Hc
    iexact Hw
  · iempintro

theorem phi_start (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What is kept past the region: the barrier's semaphore and the weights. -/
def kept (c : Dev nD) : sProp 𝕄 := iprop(unscopedSems0 c ∗ weights m c)

theorem phi_end (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = left m c from rfl, scopedRest0_eq, ownSems0_eq]
  unfold kept left scratch
  rw [unscopedSems0_eq]
  iintro ⟨Hr, Hz, HB, Hw⟩
  isplitl [HB Hw]
  · isplitl [HB] <;> iassumption
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- A device's memory at the end: the weights as they were, the barrier's counter at zero. -/
def QK (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

theorem kept_read (c : Dev nD) (s' : Phys nD τ sig (Elt F)) :
    iprop(kept m c ∗ emp ∗ SI s') ⊢ |={Set.univ}=> iprop(⌜QK m c s'.mem⌝ ∗ SI s') := by
  unfold kept weights
  iintro ⟨⟨Hu, Hw⟩, -, HSI⟩
  icombine HSI Hw gives %hw
  imod (Pipeline.unscopedSems0_read (X := unscopedSems0 c) (c := c) fupd_intro s') $$ [Hu HSI] with ⟨%hs, HSI⟩
  · isplitl [Hu] <;> iassumption
  imodintro
  isplitr
  · ipureintro; exact ⟨funext fun i => hw i (Finset.mem_univ i), hs⟩
  iexact HSI

/-! ## The run -/

def finalA (c : Dev nD) (w : Fin cfg0.W) : Buf (Elt F) ((cfg0.win w).arr.view.loc (c : Thread nD τ)) := (dats m 0 c).arrAt w cfg0.N

/-- The end of the run: the windows' arrays, the weights, the counters. -/
def Done (r : PUnit × MemSt nD τ sig (Elt F)) : Prop :=
  (∀ c : Dev nD, (∀ w : Fin cfg0.W, r.2.mem ((cfg0.win w).arr.view.loc (c : Thread nD τ)) = finalA m c w)
      ∧ r.2.mem ((c : Thread nD τ).loc main_arg1) = m ((c : Thread nD τ).loc main_arg1))
    ∧ r.2.sem = fun _ => 0

set_option maxRecDepth 8000 in
theorem run_main : θ_run defs (onTc (τ := τ) (main (F := F))) (s₀ m ρ) (Done m) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := fun c => (body_obligation m c).loose)
    (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi_start m) (hout := phi_end m)
    (QY := QK m) (hY := kept_read m)
    (hQ := fun _ h hs => ⟨fun c => ⟨(h c).1, (h c).2.2.1⟩, sem_eq_zero hs fun c => (h c).2.2.2⟩)

end Cert.Gather

end
-- ==== Proof.Frames.lean ====
/-
The frames: the run's end read at the argument arrays. A staged input's array is never written; the weights are kept.
-/
module

public import proofs.«01_k».proof.Defs
public import proofs.«01_k».proof.Proof.Run
public import proofs.«01_k».proof.Proof.Gen.Kernel

@[expose] public section

noncomputable section

namespace Cert.Gather

open Cert.KernelIdeal Cert.KernelIdeal.Gen
open Idealize.ShloMosaic Idealize.ShloMosaic.TcCoe
open Idealize.SL.Sem

variable {F : FTy → Type} [FloatOps F] (m : (ℓ : Loc nD τ sig) → Buf (Elt F) ℓ) (ρ : Dev nD → PrngReg)

theorem final0 (c : Dev nD) : finalA m c (0 : Fin 4) = m ((c : Thread nD τ).loc main_arg0) := (dats (F := F) m 0 c).arrAt_in (0 : Fin 4) rfl _
theorem final1 (c : Dev nD) : finalA m c (1 : Fin 4) = m ((c : Thread nD τ).loc main_arg2) := (dats (F := F) m 0 c).arrAt_in (1 : Fin 4) rfl _
theorem final2 (c : Dev nD) : finalA m c (2 : Fin 4) = m ((c : Thread nD τ).loc main_arg3) := (dats (F := F) m 0 c).arrAt_in (2 : Fin 4) rfl _

/-- At the end of the run the arguments are as they were. -/
theorem args_kept {r : PUnit × MemSt nD τ sig (Elt F)} (h : Done m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h.1 c).1 (0 : Fin 4)).trans (final0 m c), (h.1 c).2, ((h.1 c).1 (1 : Fin 4)).trans (final1 m c), ((h.1 c).1 (2 : Fin 4)).trans (final2 m c)⟩

/-- The run with the arguments kept and every counter at zero, for any float values. -/
theorem run_kept : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m h, h.2⟩) (run_main m ρ)

theorem frame_ideal : Cert.quiescent_KernelIdeal := fun m ρ _ => run_kept m ρ

/-! ## The kernel before idealization: the same text -/

set_option maxRecDepth 16000 in
theorem same_body : Cert.Kernel.cc0_body (F := F) = cc0_body (F := F) := rfl

set_option maxRecDepth 16000 in
theorem same_bodies : Cert.Kernel.defs₀ (F := F) = defs₀ (F := F) := by
  unfold Cert.Kernel.defs₀ defs₀
  refine congrArg Defs.onTc ?_
  funext l x
  match l, x with
  | 0, (t, s) => rfl
  | ⟨_ + 1, h⟩, _ => exact absurd h (Nat.not_lt.2 (Nat.le_add_left _ _))

theorem same_defs : Cert.Kernel.defs (F := F) = defs (F := F) := congrArg (Pipeline.defs pcfgs) same_bodies

theorem frame_kernel : Cert.quiescent_Kernel := fun m ρ _ => by
  rw [same_defs]
  exact run_kept (F := Bits) m ρ

end Cert.Gather

end
-- ==== Proof.RefValue.lean ====
/-
The reference's result, read at the end of its run: the product of the widened rows by the weights, times the scales.
-/
module

public import proofs.«01_k».proof.Proof.Gen.ReferenceIdeal.Frame
public import Idealize.ShloMosaic.Lib.Pointwise
public import Idealize.ShloMosaic.Lib.Pipeline.ValueKit

@[expose] public section

set_option maxRecDepth 16384

noncomputable section

namespace Cert.Gather.Ref

open Cert.ReferenceIdeal Cert.ReferenceIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- The operands, as the device holds them. -/
abbrev X : FVec Ideal S4096x4096 .fp8e4m3 := m ((c : Thread nD τ).loc main_arg0)
abbrev Wm : FVec Ideal S4096x8192 .f32 := m ((c : Thread nD τ).loc main_arg1)
abbrev A : FVec Ideal S1 .f32 := m ((c : Thread nD τ).loc main_arg2)
abbrev B : FVec Ideal S1 .f32 := m ((c : Thread nD τ).loc main_arg3)

/-- The rows after the kernel that widens them. -/
def wide : FVec Ideal S4096x4096 .f32 := (dats m 0 c).arrAt (1 : Fin 2) cfg0.N

theorem wide_eq (i : S4096x4096.Idx) : wide m c i = X m c i := by
  have h : (win0_1.blk (0 : Fin 1)).view.read (Elt Ideal) (wide m c) = out0_1 (iblk m c 0 (0 : Fin 1)) := by
    unfold wide
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    refine (View.read_write_univ _ _).trans ?_
    exact funext fun y => congrFun (after0_1 m c (0 : Fin 1)) y
  have hz : (fun a => (win0_1.index (0 : Fin 1)) a * main_v0.ty.shape.size a) = fun _ => 0 :=
    funext fun a => by fin_cases a <;> decide
  rw [show (win0_1.blk (0 : Fin 1)).view.read (Elt Ideal) (wide m c) = wide m c from
    Memref.read_access_unit_zero (Elt Ideal) main_v0 hz (fun a => by fin_cases a <;> decide) _] at h
  rw [h]
  unfold out0_1
  rw [View.canon_cons_unit_lit _ _ _ (by decide), View.ld_unit_lit _ _ (by decide)]
  have hx : iblk m c 0 (0 : Fin 1) = X m c := by
    have hz0 : (fun a => (win0_0.index (0 : Fin 1)) a * main_arg0.ty.shape.size a) = fun _ => 0 :=
      funext fun a => by fin_cases a <;> decide
    exact Memref.read_access_unit_zero (Elt Ideal) main_arg0 hz0 (fun a => by fin_cases a <;> decide) _
  rw [hx]
  pointwise [k0_pay1]

/-- The result: what the lines after the region leave. -/
def result : FVec Ideal S4096x8192 .f32 := Pipeline.afterTail₀ cfgs (dats m) 0 (V0 m) [hostOps1] c main_v5

theorem result_eq : result m c = mulf (Host.dotGeneral dot_S4096x4096_S4096x8192_S4096x8192_1_0_0_1_n_n none (wide m c) (Wm m c))
    (broadcastInDim S4096x8192 ![0, 1] bcast_S1x1_S4096x8192_0_1 (broadcastInDim S1x1 ![1] bcast_S1_S1x1_1 (mulf (A m c) (B m c)))) := by
  unfold result Pipeline.afterTail₀
  simp only [List.flatten_cons, List.flatten_nil, List.append_nil, List.cons_append, List.nil_append, hostOps1]
  after_results
  rw [Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3)),
    show Pipeline.withArrays (cfgs 0).spec c (V0 m c) (fun w => (dats m 0 c).arrAt w (cfgs 0).N) (Proc.tc.devRef main_v0) = wide m c from
      Pipeline.withArrays_arr spec0 (by decide) c (V0 m c) (fun w => (dats m 0 c).arrAt w (cfgs 0).N) (1 : Fin 2)]
  rfl

/-- An element of the result. -/
theorem result_apply (i : Fin 4096) (j : Fin 8192) : result m c (ix2 i j)
    = (∑ k : Fin 4096, X m c (ix2 i k) * Wm m c (ix2 k j)) * (A m c (ix1 0) * B m c (ix1 0)) := by
  rw [result_eq]
  pointwise []
  simp only [wide_eq]

/-- The reference's run ends with `result` in its result's buffer, and its arguments kept. -/
theorem run_result : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).2 main_v5 (Pipeline.mem_restRefs_of main_v5 (by decide) (by decide)), h.2 c⟩)
    (θ_run_and (run_main m ρ) (unchanged m ρ))

end Cert.Gather.Ref

end
-- ==== Proof.Value.lean ====
/-
The kernel's result, element by element, and its equation with the reference's.
-/
module

public import proofs.«01_k».proof.Proof.Frames
public import proofs.«01_k».proof.Proof.RefValue

@[expose] public section

set_option maxRecDepth 16384

noncomputable section

namespace Cert.Gather

open Cert.KernelIdeal Cert.KernelIdeal.Gen
open Idealize.ShloMosaic Idealize.ShloMosaic.TcCoe
open Idealize.SL.Sem

section Any
variable {F : FTy → Type} [FloatOps F] (m : (ℓ : Loc nD τ sig) → Buf (Elt F) ℓ)

/-- The staged operands are the arrays: each window is its whole array. -/
theorem xs_eq (c : Dev nD) : xs m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem sa_eq (c : Dev nD) : sa m c = m ((c : Thread nD τ).loc main_arg2) := by
  have hz : (fun a => (win0_1.index (0 : Fin 1)) a * main_arg2.ty.shape.size a) = fun _ => 0 :=
    funext fun a => by fin_cases a <;> decide
  exact Memref.read_access_unit_zero (Elt F) main_arg2 hz (fun a => by fin_cases a <;> decide) _

theorem sb_eq (c : Dev nD) : sb m c = m ((c : Thread nD τ).loc main_arg3) := by
  have hz : (fun a => (win0_2.index (0 : Fin 1)) a * main_arg3.ty.shape.size a) = fun _ => 0 :=
    funext fun a => by fin_cases a <;> decide
  exact Memref.read_access_unit_zero (Elt F) main_arg3 hz (fun a => by fin_cases a <;> decide) _

/-- The result array ends at what the body leaves staged. -/
theorem final3 (c : Dev nD) : finalA m c (3 : Fin 4) = outAt m c := by
  have h : (win0_3.blk (0 : Fin 1)).view.read (Elt F) (finalA m c (3 : Fin 4)) = outAt m c := by
    unfold finalA
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    refine (View.read_write_univ _ _).trans ?_
    exact funext fun y => rfl
  have hz : (fun a => (win0_3.index (0 : Fin 1)) a * main_v1.ty.shape.size a) = fun _ => 0 :=
    funext fun a => by fin_cases a <;> decide
  rw [show (win0_3.blk (0 : Fin 1)).view.read (Elt F) (finalA m c (3 : Fin 4)) = finalA m c (3 : Fin 4) from
    Memref.read_access_unit_zero (Elt F) main_v1 hz (fun a => by fin_cases a <;> decide) _] at h
  exact h

end Any

/-- Where step `s`'s columns begin. -/
theorem cols_at : ∀ (s : Fin 32) (d : Dev nD), k0_off1 d (BitVec.ofNat 32 s.val) 0 = 0
    ∧ k0_off1 d (BitVec.ofNat 32 s.val) 1 = (up s d).val * 256 := by decide +kernel

variable (m : (ℓ : Loc nD τ sig) → Buf (Elt Ideal) ℓ)

/-- The operands a device holds. -/
abbrev Xd (c : Dev nD) : FVec Ideal S128x4096 .fp8e4m3 := m ((c : Thread nD τ).loc main_arg0)
abbrev Wd (c : Dev nD) : FVec Ideal S4096x8192 .f32 := m ((c : Thread nD τ).loc main_arg1)
abbrev Ad (c : Dev nD) : FVec Ideal S1 .f32 := m ((c : Thread nD τ).loc main_arg2)
abbrev Bd (c : Dev nD) : FVec Ideal S1 .f32 := m ((c : Thread nD τ).loc main_arg3)

theorem wt_apply (c : Dev nD) (s : Fin 32) (k : Fin 4096) (j : Fin 256) (h : (up s c).val * 256 + j.val < 8192) :
    wt m c s (ix2 k j) = Wd m c (ix2 k ⟨(up s c).val * 256 + j.val, h⟩) := by
  unfold wt
  show wAll m c ((rV c s).emb (ix2 k j)) = _
  refine congrArg (wAll m c) (funext fun a => Fin.ext ?_)
  obtain ⟨h0, h1⟩ := cols_at s c
  match a with
  | ⟨0, _⟩ => exact (Rect.idx_unit_val _ _ _ _ _).trans (by rw [show (⟨0, by decide⟩ : Fin 2) = 0 from rfl, h0]; exact Nat.zero_add _)
  | ⟨1, _⟩ => exact (Rect.idx_unit_val _ _ _ _ _).trans (by rw [show (⟨1, by decide⟩ : Fin 2) = 1 from rfl, h1]; rfl)

/-- An element of a block. -/
theorem blkAt_apply (c : Dev nD) (s : Fin 32) (i : Fin 128) (j : Fin 256) : blkAt m c s (ix2 i j)
    = (∑ k : Fin 4096, Xd m c (ix2 i k) * wt m c s (ix2 k j)) * (Ad m c (ix1 0) * Bd m c (ix1 0)) := by
  unfold blkAt blk sc xb
  rw [xs_eq, sa_eq, sb_eq]
  pointwise [k0_pay1, k0_pay2]
  have h0 : i0 = ix1 0 := by
    funext a
    match a with
    | ⟨0, _⟩ => exact Subsingleton.elim (α := Fin 1) _ _
  rw [h0]

/-- The equation: a device's result is its columns of the reference's. -/
theorem outAt_eq (m' : (ℓ : Loc Cert.ReferenceIdeal.nD Cert.ReferenceIdeal.τ Cert.ReferenceIdeal.sig) → Buf (Elt Ideal) ℓ)
    (hx : ∀ c : Dev nD, Xd m c = Layout.block ⟨2, ![128, 4096]⟩ ⟨2, ![4096, 4096]⟩ 0 32 c (Ref.X m' 0))
    (hw : ∀ c : Dev nD, Wd m c = Ref.Wm m' 0) (ha : ∀ c : Dev nD, Ad m c = Ref.A m' 0) (hb : ∀ c : Dev nD, Bd m c = Ref.B m' 0)
    (c : Dev nD) : outAt m c = Layout.block ⟨2, ![4096, 256]⟩ ⟨2, ![4096, 8192]⟩ 1 32 c (Ref.result m' 0) := by
  funext y
  obtain ⟨i, j, rfl⟩ : ∃ (i : Fin 4096) (j : Fin 256), y = ix2 i j := ⟨y 0, y 1, eq_ix2 y⟩
  have hc : c.val < 32 := c.isLt
  have hj : c.val * 256 + j.val < 8192 := by have := j.isLt; omega
  have hi : i.val / 128 < 32 := by have := i.isLt; omega
  have hR : Layout.block ⟨2, ![4096, 256]⟩ ⟨2, ![4096, 8192]⟩ 1 32 c (Ref.result m' 0) (by decide) (ix2 i j)
      = Ref.result m' 0 (ix2 i ⟨c.val * 256 + j.val, hj⟩) := by
    rw [Layout.block_apply]
    refine congrArg (Ref.result m' 0) (funext fun a => Fin.ext ?_)
    match a with
    | ⟨0, _⟩ => rfl
    | ⟨1, _⟩ => rfl
  rw [hR, Ref.result_apply]
  set d : Dev nD := ⟨i.val / 128, hi⟩ with hd
  have hO : outAt m c (ix2 i j) = blkAt m d (off c d) (ix2 ⟨i.val % 128, Nat.mod_lt _ (by decide)⟩ j) := by
    unfold outAt
    have h1 : rowDev (ix2 i j) = d := rfl
    have h2 : inRow (ix2 i j) = ix2 ⟨i.val % 128, Nat.mod_lt _ (by decide)⟩ j := by
      funext a
      match a with
      | ⟨0, _⟩ => rfl
      | ⟨1, _⟩ => rfl
    rw [h1, h2]
  have hu : up (off c d) d = c := up_off c d
  rw [hO, blkAt_apply, ha, hb]
  refine congrArg (· * _) (Finset.sum_congr rfl fun k _ => ?_)
  rw [wt_apply m d (off c d) k j (by rw [hu]; exact hj), hw, hx]
  refine congr (congrArg HMul.hMul ?_) ?_
  · rw [Layout.block_apply]
    refine congrArg (Ref.X m' 0) (funext fun a => Fin.ext ?_)
    match a with
    | ⟨0, _⟩ => show d.val * 128 + i.val % 128 = i.val; rw [hd]; show i.val / 128 * 128 + i.val % 128 = i.val; omega
    | ⟨1, _⟩ => rfl
  · refine congrArg (Ref.Wm m' 0) ?_
    congr 2
    rw [hu]

theorem algebraic : Cert.algebraic_KernelIdeal_ReferenceIdeal := by
  intro m g m' g' _ hagree
  refine ⟨Ref.result m' 0, ?_, ?_⟩
  · refine (θ_run defs _ _).mono (fun _ h c => ⟨?_, args_kept m h c⟩) (run_main m g)
    exact ((h.1 c).1 (3 : Fin 4)).trans ((final3 m c).trans (outAt_eq m m' (fun c => (hagree c).1) (fun c => (hagree c).2.1)
      (fun c => (hagree c).2.2.1) (fun c => (hagree c).2.2.2) c))
  · exact (θ_run Cert.ReferenceIdeal.defs _ _).mono (fun _ h => h 0) (Ref.run_result m' g')

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frames
public import proofs.«01_k».proof.Proof.RefValue
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Gather.frame_kernel, Cert.Gather.frame_ideal, fun m ρ _ => Cert.ReferenceIdeal.Gen.frame m ρ, trivial, Cert.Gather.algebraic⟩

end Cert.Proof

end
